-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_votes_strict [hPre_top_votes_strict : Cert.Pre_top_votes_strict.Facts] (m : (ℓ : Loc Cert.KernelIdeal.nD Cert.KernelIdeal.τ Cert.KernelIdeal.sig) → Buf (Elt Ideal) ℓ) : Prop :=
  ∀ c : Dev Cert.KernelIdeal.nD,
    (Cert.Pre_top_votes_strict.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_votes_strict [hPre_top_votes_strict : Cert.Pre_top_votes_strict.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_votes_strict.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_top_votes_strict [hKernelIdeal : Cert.KernelIdeal.Facts] [hPre_top_votes_strict : Cert.Pre_top_votes_strict.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_votes_strict m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_top_votes_strict [hReferenceIdeal : Cert.ReferenceIdeal.Facts] [hPre_top_votes_strict : Cert.Pre_top_votes_strict.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_votes_strict m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_top_votes_strict [hKernelIdeal : Cert.KernelIdeal.Facts] [hReferenceIdeal : Cert.ReferenceIdeal.Facts] [hPre_top_votes_strict : Cert.Pre_top_votes_strict.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_votes_strict m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_cst_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_top_votes_strict : Cert.Pre_top_votes_strict.Facts),
    quiescent_Kernel (hKernel := hKernel)
    ∧ quiescent_KernelIdeal (hKernelIdeal := hKernelIdeal)
    ∧ quiescent_KernelIdeal_pre_top_votes_strict (hKernelIdeal := hKernelIdeal) (hPre_top_votes_strict := hPre_top_votes_strict)
    ∧ quiescent_ReferenceIdeal (hReferenceIdeal := hReferenceIdeal)
    ∧ quiescent_ReferenceIdeal_pre_top_votes_strict (hReferenceIdeal := hReferenceIdeal) (hPre_top_votes_strict := hPre_top_votes_strict)
    ∧ preserves_Kernel_KernelIdeal
    ∧ algebraic_KernelIdeal_ReferenceIdeal_pre_top_votes_strict (hKernelIdeal := hKernelIdeal) (hReferenceIdeal := hReferenceIdeal) (hPre_top_votes_strict := hPre_top_votes_strict)
-- ==== Pre_top_votes_strict.lean ====
abbrev S4096x256 : Shape := ⟨2, ![4096, 256]⟩
abbrev S4x256x64 : Shape := ⟨3, ![4, 256, 64]⟩
abbrev S4x64 : Shape := ⟨2, ![4, 64]⟩
abbrev S4x64x4096 : Shape := ⟨3, ![4, 64, 4096]⟩
abbrev S4x4096 : Shape := ⟨2, ![4, 4096]⟩
abbrev S4096x64 : Shape := ⟨2, ![4096, 64]⟩
abbrev S64x64 : Shape := ⟨2, ![64, 64]⟩
abbrev S64 : Shape := ⟨1, ![64]⟩
abbrev S64x256 : Shape := ⟨2, ![64, 256]⟩
abbrev S256 : Shape := ⟨1, ![256]⟩
abbrev S4096x4x64 : Shape := ⟨3, ![4096, 4, 64]⟩
abbrev S1x4x64 : Shape := ⟨3, ![1, 4, 64]⟩
abbrev S_ : Shape := ⟨0, ![]⟩
abbrev S4x4096x4096 : Shape := ⟨3, ![4, 4096, 4096]⟩
abbrev S4096x4x4096 : Shape := ⟨3, ![4096, 4, 4096]⟩
abbrev S1x4x4096 : Shape := ⟨3, ![1, 4, 4096]⟩
abbrev S16384x4096 : Shape := ⟨2, ![16384, 4096]⟩
abbrev S16384x9 : Shape := ⟨2, ![16384, 9]⟩
abbrev S16384x8 : Shape := ⟨2, ![16384, 8]⟩

class Facts : Prop where
  bcast_S4x64_S1x4x64_1_2 : S4x64.BroadcastsInDim S1x4x64 (![1, 2] : Fin 2 → Fin S1x4x64.rank)
  bcast_S1x4x64_S4096x4x64_0_1_2 : S1x4x64.BroadcastsInDim S4096x4x64 (![0, 1, 2] : Fin 3 → Fin S4096x4x64.rank)
  bcast_S_S4096x4x64 : S_.BroadcastsInDim S4096x4x64 (![] : Fin 0 → Fin S4096x4x64.rank)
  transposes_S4x4096x4096_S4096x4x4096_2_0_1 : S4x4096x4096.Transposes [2, 0, 1] S4096x4x4096
  bcast_S4x4096_S1x4x4096_1_2 : S4x4096.BroadcastsInDim S1x4x4096 (![1, 2] : Fin 2 → Fin S1x4x4096.rank)
  bcast_S1x4x4096_S4096x4x4096_0_1_2 : S1x4x4096.BroadcastsInDim S4096x4x4096 (![0, 1, 2] : Fin 3 → Fin S4096x4x4096.rank)
  shapeCasts_S4096x4x4096_S16384x4096 : S4096x4x4096.ShapeCasts S16384x4096
  sliceFits_S16384x4096_S16384x9 : S16384x4096.Slices (fun _ => 0) S16384x9
  slices_S16384x9_S16384x8_0_0 : S16384x9.Slices ![0, 0] S16384x8
  slices_S16384x9_S16384x8_0_1 : S16384x9.Slices ![0, 1] S16384x8
  dot_S4096x256_S4x256x64_S4096x4x64_1_1_0_02_n_n_wf : DotDims.WF S4096x256 S4x256x64 S4096x4x64 [1] [1] [0] [0, 2] [] []
  dot_S4x64x4096_S4096x4x64_S4x4096x4096_1_2_2_0_0_1_wf : DotDims.WF S4x64x4096 S4096x4x64 S4x4096x4096 [1] [2] [2] [0] [0] [1]

variable [Facts]

def dot_S4096x256_S4x256x64_S4096x4x64_1_1_0_02_n_n : DotDims S4096x256 S4x256x64 S4096x4x64 where
  lhsContracting := [1]
  rhsContracting := [1]
  lhsNonContracting := [0]
  rhsNonContracting := [0, 2]
  lhsBatch := []
  rhsBatch := []
  wf := dot_S4096x256_S4x256x64_S4096x4x64_1_1_0_02_n_n_wf
def dot_S4x64x4096_S4096x4x64_S4x4096x4096_1_2_2_0_0_1 : DotDims S4x64x4096 S4096x4x64 S4x4096x4096 where
  lhsContracting := [1]
  rhsContracting := [2]
  lhsNonContracting := [2]
  rhsNonContracting := [0]
  lhsBatch := [0]
  rhsBatch := [1]
  wf := dot_S4x64x4096_S4096x4x64_S4x4096x4096_1_2_2_0_0_1_wf
def fn_relu {F : FTy → Type} [FloatOps F] (arg0 : FVec F S4096x4x64 .f32) : FVec F S4096x4x64 .f32 :=
  let cst : FVec F S_ .f32 := constant S_ .f32 0x00000000#32
  let v0 : FVec F S4096x4x64 .f32 := broadcastInDim S4096x4x64 ![] bcast_S_S4096x4x64 cst
  let v1 : FVec F S4096x4x64 .f32 := maximumf arg0 v0
  v1

def fn {F : FTy → Type} [FloatOps F] (main_arg0 : FVec F S4096x256 .f32) (main_arg1 : FVec F S4x256x64 .f32) (main_arg2 : FVec F S4x64 .f32) (main_arg3 : FVec F S4x64x4096 .f32) (main_arg4 : FVec F S4x4096 .f32) (main_arg5 : FVec F S4096x64 .f32) (main_arg6 : FVec F S64x64 .f32) (main_arg7 : FVec F S64 .f32) (main_arg8 : FVec F S64x256 .f32) (main_arg9 : FVec F S256 .f32) : IVec S16384x8 1 :=
  let main_v0 : FVec F S4096x4x64 .f32 := (fun l r => Host.dotGeneral dot_S4096x256_S4x256x64_S4096x4x64_1_1_0_02_n_n none l r) main_arg0 main_arg1
  let main_v1 : FVec F S1x4x64 .f32 := broadcastInDim S1x4x64 ![1, 2] bcast_S4x64_S1x4x64_1_2 main_arg2
  let main_v2 : FVec F S4096x4x64 .f32 := broadcastInDim S4096x4x64 ![0, 1, 2] bcast_S1x4x64_S4096x4x64_0_1_2 main_v1
  let main_v3 : FVec F S4096x4x64 .f32 := addf main_v0 main_v2
  let main_v4 : FVec F S4096x4x64 .f32 := fn_relu (F := F) main_v3
  let main_v5 : FVec F S4x4096x4096 .f32 := (fun l r => Host.dotGeneral dot_S4x64x4096_S4096x4x64_S4x4096x4096_1_2_2_0_0_1 none l r) main_arg3 main_v4
  let main_v6 : FVec F S4096x4x4096 .f32 := (transpose S4096x4x4096 [2, 0, 1] · transposes_S4x4096x4096_S4096x4x4096_2_0_1) main_v5
  let main_v7 : FVec F S1x4x4096 .f32 := broadcastInDim S1x4x4096 ![1, 2] bcast_S4x4096_S1x4x4096_1_2 main_arg4
  let main_v8 : FVec F S4096x4x4096 .f32 := broadcastInDim S4096x4x4096 ![0, 1, 2] bcast_S1x4x4096_S4096x4x4096_0_1_2 main_v7
  let main_v9 : FVec F S4096x4x4096 .f32 := addf main_v6 main_v8
  let main_v10 : FVec F S16384x4096 .f32 := shapeCast S16384x4096 main_v9 shapeCasts_S4096x4x4096_S16384x4096
  let main_values : FVec F S16384x9 .f32 := (fun x => (Host.topK S16384x9 1 (FloatOps.cmpfTotal .gt) x sliceFits_S16384x4096_S16384x9).1) main_v10
  let main_indices : IVec S16384x9 32 := (fun x => (Host.topK S16384x9 1 (FloatOps.cmpfTotal .gt) x sliceFits_S16384x4096_S16384x9).2) main_v10
  let main_v11 : FVec F S16384x8 .f32 := (extractStridedSlice S16384x8 ![0, 0] · slices_S16384x9_S16384x8_0_0) main_values
  let main_v12 : FVec F S16384x8 .f32 := (extractStridedSlice S16384x8 ![0, 1] · slices_S16384x9_S16384x8_0_1) main_values
  let main_v13 : IVec S16384x8 1 := cmpf .ogt main_v11 main_v12
  main_v13
-- ==== Kernel.lean ====
abbrev S4096x256 : Shape := ⟨2, ![4096, 256]⟩
abbrev S4x256x64 : Shape := ⟨3, ![4, 256, 64]⟩
abbrev S4x64 : Shape := ⟨2, ![4, 64]⟩
abbrev S4x64x4096 : Shape := ⟨3, ![4, 64, 4096]⟩
abbrev S4x4096 : Shape := ⟨2, ![4, 4096]⟩
abbrev S4096x64 : Shape := ⟨2, ![4096, 64]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x4x64 : Shape := ⟨3, ![256, 4, 64]⟩
abbrev S256x256 : Shape := ⟨2, ![256, 256]⟩
abbrev S4096x4096 : Shape := ⟨2, ![4096, 4096]⟩
abbrev S256x4096 : Shape := ⟨2, ![256, 4096]⟩
abbrev S1x256 : Shape := ⟨2, ![1, 256]⟩
abbrev S256x64 : Shape := ⟨2, ![256, 64]⟩
abbrev S1x64x4096 : Shape := ⟨3, ![1, 64, 4096]⟩
abbrev S64x4096 : Shape := ⟨2, ![64, 4096]⟩
abbrev S1x4096 : Shape := ⟨2, ![1, 4096]⟩
abbrev S4096 : Shape := ⟨1, ![4096]⟩
abbrev S64x128 : Shape := ⟨2, ![64, 128]⟩
abbrev S64x384 : Shape := ⟨2, ![64, 384]⟩
abbrev S64x1 : Shape := ⟨2, ![64, 1]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x64 : Shape := ⟨2, ![1, 64]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4x256x64, .f32⟩
  | .hbm, ⟨2, _⟩ => ⟨S4x64, .f32⟩
  | .hbm, ⟨3, _⟩ => ⟨S4x64x4096, .f32⟩
  | .hbm, ⟨4, _⟩ => ⟨S4x4096, .f32⟩
  | .hbm, ⟨5, _⟩ => ⟨S4096x64, .f32⟩
  | .hbm, ⟨6, _⟩ => ⟨S64x64, .f32⟩
  | .hbm, ⟨7, _⟩ => ⟨S64, .f32⟩
  | .hbm, ⟨8, _⟩ => ⟨S64x256, .f32⟩
  | .hbm, ⟨9, _⟩ => ⟨S256, .f32⟩
  | .hbm, ⟨10, _⟩ => ⟨S256x4x64, .f32⟩
  | .hbm, ⟨11, _⟩ => ⟨S256x256, .f32⟩
  | .hbm, ⟨12, _⟩ => ⟨S256, .f32⟩
  | .hbm, ⟨13, _⟩ => ⟨S4096x256, .f32⟩
  | .hbm, ⟨14, _⟩ => ⟨S4096x4096, .f32⟩
  | .hbm, ⟨15, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256, .f32⟩
  | .local _ .vmem, ⟨4, _⟩ => ⟨S4x64x4096, .f32⟩
  | .local _ .vmem, ⟨5, _⟩ => ⟨S4x4096, .f32⟩
  | .local _ .vmem, ⟨6, _⟩ => ⟨S4096x64, .f32⟩
  | .local _ .vmem, ⟨7, _⟩ => ⟨S64x64, .f32⟩
  | .local _ .vmem, ⟨8, _⟩ => ⟨S64, .f32⟩
  | .local _ .vmem, ⟨9, _⟩ => ⟨S64x256, .f32⟩
  | .local _ .vmem, ⟨10, _⟩ => ⟨S256, .f32⟩
  | .local _ .vmem, ⟨11, _⟩ => ⟨S256x256, .f32⟩
  | .local _ .vmem, ⟨12, _⟩ => ⟨S256x256, .f32⟩
  | .local _ .vmem, ⟨13, _⟩ => ⟨S256x4096, .f32⟩
  | .local _ .vmem, ⟨14, _⟩ => ⟨S256x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_cst : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S4096x256 : Shape := ⟨2, ![4096, 256]⟩
abbrev S4x256x64 : Shape := ⟨3, ![4, 256, 64]⟩
abbrev S4x64 : Shape := ⟨2, ![4, 64]⟩
abbrev S4x64x4096 : Shape := ⟨3, ![4, 64, 4096]⟩
abbrev S4x4096 : Shape := ⟨2, ![4, 4096]⟩
abbrev S4096x64 : Shape := ⟨2, ![4096, 64]⟩
abbrev S64x64 : Shape := ⟨2, ![64, 64]⟩
abbrev S64 : Shape := ⟨1, ![64]⟩
abbrev S64x256 : Shape := ⟨2, ![64, 256]⟩
abbrev S256 : Shape := ⟨1, ![256]⟩
abbrev S4096x4x64 : Shape := ⟨3, ![4096, 4, 64]⟩
abbrev S1x4x64 : Shape := ⟨3, ![1, 4, 64]⟩
abbrev S_ : Shape := ⟨0, ![]⟩
abbrev S4x4096x4096 : Shape := ⟨3, ![4, 4096, 4096]⟩
abbrev S4096x4x4096 : Shape := ⟨3, ![4096, 4, 4096]⟩
abbrev S1x4x4096 : Shape := ⟨3, ![1, 4, 4096]⟩
abbrev S16384x4096 : Shape := ⟨2, ![16384, 4096]⟩
abbrev S16384x8 : Shape := ⟨2, ![16384, 8]⟩
abbrev S16384 : Shape := ⟨1, ![16384]⟩
abbrev S16384x1 : Shape := ⟨2, ![16384, 1]⟩
abbrev S16384x8x1 : Shape := ⟨3, ![16384, 8, 1]⟩
abbrev S16384x8x2 : Shape := ⟨3, ![16384, 8, 2]⟩
abbrev S4096x4096 : Shape := ⟨2, ![4096, 4096]⟩
abbrev S1x64 : Shape := ⟨2, ![1, 64]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x256x64, .f32⟩
  | .hbm, ⟨2, _⟩ => ⟨S4x64, .f32⟩
  | .hbm, ⟨3, _⟩ => ⟨S4x64x4096, .f32⟩
  | .hbm, ⟨4, _⟩ => ⟨S4x4096, .f32⟩
  | .hbm, ⟨5, _⟩ => ⟨S4096x64, .f32⟩
  | .hbm, ⟨6, _⟩ => ⟨S64x64, .f32⟩
  | .hbm, ⟨7, _⟩ => ⟨S64, .f32⟩
  | .hbm, ⟨8, _⟩ => ⟨S64x256, .f32⟩
  | .hbm, ⟨9, _⟩ => ⟨S256, .f32⟩
  | .hbm, ⟨10, _⟩ => ⟨S4096x4x64, .f32⟩
  | .hbm, ⟨11, _⟩ => ⟨S1x4x64, .f32⟩
  | .hbm, ⟨12, _⟩ => ⟨S4096x4x64, .f32⟩
  | .hbm, ⟨13, _⟩ => ⟨S4096x4x64, .f32⟩
  | .hbm, ⟨14, _⟩ => ⟨S_, .f32⟩
  | .hbm, ⟨15, _⟩ => ⟨S4096x4x64, .f32⟩
  | .hbm, ⟨16, _⟩ => ⟨S4096x4x64, .f32⟩
  | .hbm, ⟨17, _⟩ => ⟨S4x4096x4096, .f32⟩
  | .hbm, ⟨18, _⟩ => ⟨S4096x4x4096, .f32⟩
  | .hbm, ⟨19, _⟩ => ⟨S1x4x4096, .f32⟩
  | .hbm, ⟨20, _⟩ => ⟨S4096x4x4096, .f32⟩
  | .hbm, ⟨21, _⟩ => ⟨S4096x4x4096, .f32⟩
  | .hbm, ⟨22, _⟩ => ⟨S16384x4096, .f32⟩
  | .hbm, ⟨23, _⟩ => ⟨S16384x8, .f32⟩
  | .hbm, ⟨24, _⟩ => ⟨S16384x8, .i32⟩
  | .hbm, ⟨25, _⟩ => ⟨S16384, .i32⟩
  | .hbm, ⟨26, _⟩ => ⟨S16384x1, .i32⟩
  | .hbm, ⟨27, _⟩ => ⟨S_, .f32⟩
  | .hbm, ⟨28, _⟩ => ⟨S16384x4096, .f32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S_, .i32⟩
  | .hbm, ⟨33, _⟩ => ⟨S16384x1, .i32⟩
  | .hbm, ⟨34, _⟩ => ⟨S16384x1, .i32⟩
  | .hbm, ⟨35, _⟩ => ⟨S16384x1, .i32⟩
  | .hbm, ⟨36, _⟩ => ⟨S_, .i32⟩
  | .hbm, ⟨37, _⟩ => ⟨S16384x8, .i32⟩
  | .hbm, ⟨38, _⟩ => ⟨S16384x8, .i1⟩
  | .hbm, ⟨39, _⟩ => ⟨S_, .i32⟩
  | .hbm, ⟨40, _⟩ => ⟨S16384x8, .i32⟩
  | .hbm, ⟨41, _⟩ => ⟨S16384x8, .i32⟩
  | .hbm, ⟨42, _⟩ => ⟨S16384x8, .i32⟩
  | .hbm, ⟨43, _⟩ => ⟨S16384x8, .i32⟩
  | .hbm, ⟨44, _⟩ => ⟨S16384x8x1, .i32⟩
  | .hbm, ⟨45, _⟩ => ⟨S16384x8x1, .i32⟩
  | .hbm, ⟨46, _⟩ => ⟨S16384x8x2, .i32⟩
  | .hbm, ⟨47, _⟩ => ⟨S_, .f32⟩
  | .hbm, ⟨48, _⟩ => ⟨S16384x8, .f32⟩
  | .hbm, ⟨49, _⟩ => ⟨S16384x4096, .f32⟩
  | .hbm, ⟨50, _⟩ => ⟨S4096x4x4096, .f32⟩
  | .hbm, ⟨51, _⟩ => ⟨S_, .f32⟩
  | .hbm, ⟨52, _⟩ => ⟨S4096x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x64, .f32⟩
  | .hbm, ⟨62, _⟩ => ⟨S4096x64, .f32⟩
  | .hbm, ⟨63, _⟩ => ⟨S1x64, .f32⟩
  | .hbm, ⟨64, _⟩ => ⟨S4096x64, .f32⟩
  | .hbm, ⟨65, _⟩ => ⟨S4096x64, .f32⟩
  | .hbm, ⟨66, _⟩ => ⟨S_, .f32⟩
  | .hbm, ⟨67, _⟩ => ⟨S4096x64, .f32⟩
  | .hbm, ⟨68, _⟩ => ⟨S4096x64, .f32⟩
  | .hbm, ⟨69, _⟩ => ⟨S4096x256, .f32⟩
  | .hbm, ⟨70, _⟩ => ⟨S1x256, .f32⟩
  | .hbm, ⟨71, _⟩ => ⟨S4096x256, .f32⟩
  | .hbm, ⟨72, _⟩ => ⟨S4096x256, .f32⟩
  | .hbm, ⟨73, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_values : Ref sig .tc := ⟨.hbm, 23, rfl⟩
abbrev main_indices : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_cst : Ref sig .tc := ⟨.hbm, 66, rfl⟩
abbrev main_call2_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩

abbrev nD : Nat := 1
abbrev τ : Topo := Topo.v7x

variable {F : FTy → Type} [FloatOps F]
-- ==== Proof.Keeps.lean ====
/-
  A program that keeps an assertion. `Keeps c I p` says that `p`, started with `I` on core `c`, runs without a fault and
  gives `I` back, whatever it returns. It is closed under sequencing, and a load or a store through a memref that `I` holds
  has it; so a long kernel body has it by walking over its statements, with no value named on the way.
-/
module

public import proofs.«01_k».proof.Proof.Gen.Kernel.Frame

@[expose] public section

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `p`, run on core `c` from `I`, faults nowhere and gives `I` back. -/
def Keeps (c : Dev nD) (I : sProp 𝕄) {α : Type} (p : Prog (TpuEff nD τ sig (Elt F) Λ₀ .tc) α) : Prop :=
  ∀ K : α → sProp 𝕄, iprop(I ∗ (∀ r, I -∗ K r)) ⊢ wp frame (wpE (defs₀ (F := F)) Variants.none c none) Set.univ p K

variable (c : Dev nD) (I : sProp (MT nD τ sig Unit (Elt F) ℕ (UR sig nD τ) ℕ)) {α β : Type}

/-- Returning a value keeps anything. -/
theorem Keeps.ret (a : α) : Keeps c I (pure a : Prog (TpuEff nD τ sig (Elt F) Λ₀ .tc) α) := by
  intro K
  iintro ⟨HI, Hk⟩
  sl_step
  iapply Hk
  iexact HI

variable {c I}

/-- One program after another keeps what both keep. -/
theorem Keeps.bind {p : Prog (TpuEff nD τ sig (Elt F) Λ₀ .tc) α} {k : α → Prog (TpuEff nD τ sig (Elt F) Λ₀ .tc) β}
    (hp : Keeps c I p) (hk : ∀ a, Keeps c I (k a)) : Keeps c I (p >>= k) := by
  intro K
  rw [wp_bind]
  refine BIBase.Entails.trans ?_ (hp _)
  iintro ⟨HI, Hk⟩
  isplitl [HI]; · iexact HI
  iintro %r HI
  iapply (hk r K)
  isplitl [HI]; · iexact HI
  iexact Hk

/-- A branch keeps what both its arms keep. -/
theorem Keeps.ite {q : Prop} [Decidable q] {p p' : Prog (TpuEff nD τ sig (Elt F) Λ₀ .tc) α} (h : Keeps c I p)
    (h' : Keeps c I p') : Keeps c I (if q then p else p') := by
  split
  · exact h
  · exact h'

/-- `I` holds the memref `m` at some contents and takes it back at any: `m` may be read and written. -/
def Holds (c : Dev nD) (I : sProp 𝕄) {s : Shape} {e : EltTy} (m : Memref sig .tc .vmem s e) : Prop :=
  I ⊢ iprop(∃ x, owns (c : Thread nD τ) m fullShare x ∗ (∀ y, owns (c : Thread nD τ) m fullShare y -∗ I))

/-- `I` holds the memref `m` at some contents and takes it back at those: `m` may be read. -/
def Reads (c : Dev nD) (I : sProp 𝕄) {s : Shape} {e : EltTy} (m : Memref sig .tc .vmem s e) : Prop :=
  I ⊢ iprop(∃ x, owns (c : Thread nD τ) m fullShare x ∗ (owns (c : Thread nD τ) m fullShare x -∗ I))

section Access

variable {s : Shape} {e : EltTy} {m : Memref sig .tc .vmem s e}

/-- A memref that may be written may be read. -/
theorem Holds.reads (h : Holds c I m) : Reads c I m := by
  unfold Reads
  refine BIBase.Entails.trans h ?_
  iintro ⟨%x, Hm, Hk⟩
  iexists x
  isplitl [Hm]; · iexact Hm
  iintro Hm
  iapply Hk
  iexact Hm

/-- A load through a memref that may be read. -/
theorem Keeps.load (h : Reads c I m) (r : Rect s) (hl : m.view.LoadsAt r.toLoadRect) :
    Keeps c I (Prog.lift (.load m r.toLoadRect hl) : Prog (TpuEff nD τ sig (Elt F) Λ₀ .tc) _) := by
  intro K
  unfold Reads at h
  iintro ⟨HI, Hk⟩
  ihave HI := h $$ HI
  icases HI with ⟨%x, Hm, Hback⟩
  unfold owns
  icases Hm with ⟨%f, %hf, Hm⟩
  sl_exec
  sl_step
  iapply Hk
  iapply Hback
  iexists f
  isplitr; · ipureintro; exact hf
  iexact Hm

/-- A store through a memref that may be written. -/
theorem Keeps.store (h : Holds c I m) (r : Rect s) (w : r.shape.Idx → Elt F e) (Mk : Finset r.shape.Idx)
    (hx : (m.access r).Stores Mk) (hm : Mk = Finset.univ ∨ ∀ a, r.stride a = 1) :
    Keeps c I (Prog.lift (.store m r w Mk hx hm) : Prog (TpuEff nD τ sig (Elt F) Λ₀ .tc) _) := by
  intro K
  unfold Holds at h
  iintro ⟨HI, Hk⟩
  ihave HI := h $$ HI
  icases HI with ⟨%x, Hm, Hback⟩
  unfold owns
  icases Hm with ⟨%f, %hf, Hm⟩
  sl_exec
  sl_step
  iapply Hk
  iapply Hback
  iexists _
  isplitr
  swap; · iexact Hm
  ipureintro; rfl

/-- The first of several memrefs held may be read. -/
theorem Reads.here (R : sProp 𝕄) (x : s.Idx → Elt F e) : Reads c iprop(owns (c : Thread nD τ) m fullShare x ∗ R) m := by
  unfold Reads
  iintro ⟨Hm, HR⟩
  iexists x
  isplitl [Hm]; · iexact Hm
  iintro Hm
  isplitl [Hm]; · iexact Hm
  iexact HR

/-- What may be read of the rest may be read of the whole. -/
theorem Reads.there {R : sProp 𝕄} (A : sProp 𝕄) (h : Reads c R m) : Reads c iprop(A ∗ R) m := by
  unfold Reads at h ⊢
  iintro ⟨HA, HR⟩
  ihave HR := h $$ HR
  icases HR with ⟨%x, Hm, Hback⟩
  iexists x
  isplitl [Hm]; · iexact Hm
  iintro Hm
  isplitl [HA]; · iexact HA
  iapply Hback
  iexact Hm

/-- A memref held at some contents may be written. -/
theorem Holds.alone : Holds c iprop(∃ d, owns (c : Thread nD τ) m fullShare d : sProp 𝕄) m := by
  unfold Holds
  iintro ⟨%d, Hm⟩
  iexists d
  isplitl [Hm]; · iexact Hm
  iintro %y Hm
  iexists y
  iexact Hm

/-- The first of several, held at some contents, may be written. -/
theorem Holds.here (R : sProp 𝕄) : Holds c iprop((∃ d, owns (c : Thread nD τ) m fullShare d) ∗ R) m := by
  unfold Holds
  iintro ⟨⟨%d, Hm⟩, HR⟩
  iexists d
  isplitl [Hm]; · iexact Hm
  iintro %y Hm
  isplitl [Hm]; · (iexists y; iexact Hm)
  iexact HR

/-- What may be written of the rest may be written of the whole. -/
theorem Holds.there {R : sProp 𝕄} (A : sProp 𝕄) (h : Holds c R m) : Holds c iprop(A ∗ R) m := by
  unfold Holds at h ⊢
  iintro ⟨HA, HR⟩
  ihave HR := h $$ HR
  icases HR with ⟨%x, Hm, Hback⟩
  iexists x
  isplitl [Hm]; · iexact Hm
  iintro %y Hm
  isplitl [HA]; · iexact HA
  iapply Hback
  iexact Hm

end Access

end Cert.Kernel.Safe

end
-- ==== Proof.SafeBody.lean ====
/-
  The kernel's body, run on its twelve staged blocks: the ten input blocks come back as they were, the two output blocks at
  some contents.
-/
module

public import proofs.«01_k».proof.Proof.Keeps

@[expose] public section

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option maxRecDepth 16384 in
/-- The body keeps whatever lets it read its ten inputs and write its two outputs. -/
theorem keeps_body (c : Dev nD) (I : sProp 𝕄) {i : grid0.Coords} {arg1 : Memref sig .tc .vmem S256x256 .f32} {harg1 : arg1.IsWhole} {arg2 : Memref sig .tc .vmem S256x256 .f32} {harg2 : arg2.IsWhole} {arg3 : Memref sig .tc .vmem S256 .f32} {harg3 : arg3.IsWhole} {arg4 : Memref sig .tc .vmem S4x64x4096 .f32} {harg4 : arg4.IsWhole} {arg5 : Memref sig .tc .vmem S4x4096 .f32} {harg5 : arg5.IsWhole} {arg6 : Memref sig .tc .vmem S4096x64 .f32} {harg6 : arg6.IsWhole} {arg7 : Memref sig .tc .vmem S64x64 .f32} {harg7 : arg7.IsWhole} {arg8 : Memref sig .tc .vmem S64 .f32} {harg8 : arg8.IsWhole} {arg9 : Memref sig .tc .vmem S64x256 .f32} {harg9 : arg9.IsWhole} {arg10 : Memref sig .tc .vmem S256 .f32} {harg10 : arg10.IsWhole} {arg11 : Memref sig .tc .vmem S256x256 .f32} {harg11 : arg11.IsWhole} {arg12 : Memref sig .tc .vmem S256x4096 .f32} {harg12 : arg12.IsWhole}
    (h1 : Reads c I arg1) (h2 : Reads c I arg2) (h3 : Reads c I arg3) (h4 : Reads c I arg4) (h5 : Reads c I arg5) (h6 : Reads c I arg6) (h7 : Reads c I arg7) (h8 : Reads c I arg8) (h9 : Reads c I arg9) (h10 : Reads c I arg10) (h11 : Holds c I arg11) (h12 : Holds c I arg12) :
    Keeps c I (cc0__body i arg1 harg1 arg2 harg2 arg3 harg3 arg4 harg4 arg5 harg5 arg6 harg6 arg7 harg7 arg8 harg8 arg9 harg9 arg10 harg10 arg11 harg11 arg12 harg12) := by
  delta cc0__body
  repeat' first
    | with_reducible exact Keeps.ret _ _ _
    | with_reducible exact Keeps.load (by assumption) _ _
    | with_reducible exact Keeps.load (Holds.reads (by assumption)) _ _
    | with_reducible exact Keeps.store (by assumption) _ _ _ _ _
    | with_reducible refine Keeps.bind ?_ fun _ => ?_
    | with_reducible refine Keeps.ite ?_ ?_
    | (first | delta k0_part77 | delta k0_part76 | delta k0_part75 | delta k0_part74 | delta k0_part73 | delta k0_part72 | delta k0_part71 | delta k0_part70 | delta k0_part69 | delta k0_part68 | delta k0_part67 | delta k0_part66 | delta k0_part65 | delta k0_part64 | delta k0_part63 | delta k0_part62 | delta k0_part61 | delta k0_part60 | delta k0_part59 | delta k0_part58 | delta k0_part57 | delta k0_part56 | delta k0_part55 | delta k0_part54 | delta k0_part53 | delta k0_part52 | delta k0_part51 | delta k0_part50 | delta k0_part49 | delta k0_part48 | delta k0_part47 | delta k0_part46 | delta k0_part45 | delta k0_part44 | delta k0_part43 | delta k0_part42 | delta k0_part41 | delta k0_part40 | delta k0_part39 | delta k0_part38 | delta k0_part37 | delta k0_part36 | delta k0_part35 | delta k0_part34 | delta k0_part33 | delta k0_part32 | delta k0_part31 | delta k0_part30 | delta k0_part29 | delta k0_part28 | delta k0_part27 | delta k0_part26 | delta k0_part25 | delta k0_part24 | delta k0_part23 | delta k0_part22 | delta k0_part21 | delta k0_part20 | delta k0_part19 | delta k0_part18 | delta k0_part17 | delta k0_part16 | delta k0_part15 | delta k0_part14 | delta k0_part13 | delta k0_part12 | delta k0_part11 | delta k0_part10 | delta k0_part9 | delta k0_part8 | delta k0_part7 | delta k0_part6 | delta k0_part5 | delta k0_part4 | delta k0_part3 | delta k0_part2 | delta k0_part1)
    | split

end Cert.Kernel.Safe

end
-- ==== Proof.SafeFrame.lean ====
/-
  The run of the kernel's program: it ends, its argument arrays end as they were launched and every semaphore counter is
  back at zero. The body's two outputs are forgotten: nothing here says what they hold.
-/
module

public import proofs.«01_k».proof.Proof.SafeBody

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two outputs are the windows nothing is said of. -/
def outs (w : Fin cfg0.W) : Bool := decide (10 ≤ w.val)

/-- The proof data: every input block is left in place, the two outputs hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed (cfg := cfg0) 10 t
    | ⟨11, _⟩ => Dat.unnamed (cfg := cfg0) 11 t
  Φ _ := Pipeline.ΦA spec0 c
  q _ := fullShare
  owed _ := 0

/-- The arrays are those the region is entered with. -/
theorem A_eq (c : Dev nD) (w : Fin cfg0.W) : (dats m 0 c).A w = V m c (Pipeline.arrRef spec0 w) := by
  dsimp only [dats]

/-- What the body holds at point `t`: the input blocks at the contents `iblk`, the outputs at some. -/
def held (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t)
    ∗ (∃ d, owns (c : Thread nD τ) (st0_10 t) fullShare d) ∗ (∃ d, owns (c : Thread nD τ) (st0_11 t) fullShare d))

/-- An input's staging buffer holds its block when the body is called, fetched at this point or before. -/
theorem before_eq (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t) :=
  ⟨before0_0_of m (dats m 0 c) (A_eq m c 0) (fun _ => by dsimp only [dats]) t, before0_1_of m (dats m 0 c) (A_eq m c 1) (fun _ => by dsimp only [dats]) t, before0_2_of m (dats m 0 c) (A_eq m c 2) (fun _ => by dsimp only [dats]) t, before0_3_of m (dats m 0 c) (A_eq m c 3) (fun _ => by dsimp only [dats]) t, before0_4_of m (dats m 0 c) (A_eq m c 4) (fun _ => by dsimp only [dats]) t, before0_5_of m (dats m 0 c) (A_eq m c 5) (fun _ => by dsimp only [dats]) t, before0_6_of m (dats m 0 c) (A_eq m c 6) (fun _ => by dsimp only [dats]) t, before0_7_of m (dats m 0 c) (A_eq m c 7) (fun _ => by dsimp only [dats]) t, before0_8_of m (dats m 0 c) (A_eq m c 8) (fun _ => by dsimp only [dats]) t, before0_9_of m (dats m 0 c) (A_eq m c 9) (fun _ => by dsimp only [dats]) t⟩

/-- The body at any point keeps what it holds. -/
theorem keeps_at (c : Dev nD) (t : Fin cfg0.N) : Keeps c (held m c t) (bodyAt0 t) := by
  refine keeps_body c (held m c t) ?_ ?_ ?_ ?_ ?_ ?_ ?_ ?_ ?_ ?_ ?_ ?_ <;> unfold held <;>
    repeat' first
      | with_reducible exact Reads.here _ _
      | with_reducible exact Holds.here _
      | with_reducible exact Holds.alone
      | with_reducible refine Reads.there _ ?_
      | with_reducible refine Holds.there _ ?_

/-- The table's entry at point `t` is the body there. -/
theorem row_eq (t : Fin cfg0.N) : defs₀ (F := F) .tc cfg0.body (cfg0.bodyArgs t (cfg0.slots t)) = bodyAt0 t := by
  unfold defs₀; rw [Defs.onTc_tc]

/-- What the body is called with at point `t`, the windows one by one, -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d))
    ∗ (∃ d, owns (c : Thread nD τ) (st0_10 t) fullShare d) ∗ (∃ d, owns (c : Thread nD τ) (st0_11 t) fullShare d))

/-- and what it returns. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t)
    ∗ (∃ d, owns (c : Thread nD τ) (st0_10 t) fullShare d) ∗ (∃ d, owns (c : Thread nD τ) (st0_11 t) fullShare d))

/-- The call at point `t`: the inputs' buffers are their blocks, so the body runs from `held`. -/
theorem call (c : Dev nD) (t : Fin cfg0.N) :
    callPre m c t ⊢ wp frame (wpE (defs₀ (F := F)) Variants.none c none) Set.univ (bodyAt0 t) (fun _ => callPost m c t) := by
  obtain ⟨b0, b1, b2, b3, b4, b5, b6, b7, b8, b9⟩ := before_eq m c t
  have hpost : callPost m c t = iprop((dats m 0 c).Φ t.castSucc ∗ (dats m 0 c).owesAt () t.castSucc ∗ held m c t) := rfl
  rw [hpost]
  unfold callPre
  simp only [b0, b1, b2, b3, b4, b5, b6, b7, b8, b9]
  refine BIBase.Entails.trans ?_ (keeps_at m c t _)
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, H10, H11⟩
  isplitl [H0 H1 H2 H3 H4 H5 H6 H7 H8 H9 H10 H11]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ H
  isplitl [HΦ]; · iexact HΦ
  isplitl [Ho]; · iexact Ho
  iexact H

/-- The library's obligation on the body, the two outputs forgotten. -/
theorem body_ok (c : Dev nD) : BodyObligationLoose (dats (F := F) m 0 c) (defs₀ (F := F)) Variants.none () Set.univ outs := fun t => by
  rw [bigSep_W0, bigSep_W0, row_eq]
  exact triple_restated (call m c t) rfl .rfl fun _ => .rfl

-- the launch theorem's implicit arguments are found by unifying its conclusion with this statement
set_option backward.isDefEq.respectTransparency.types false in
set_option maxHeartbeats 800000 in
/-- The run: every array of the pipeline at contents it may hold, every other buffer but the one the line after the region
    writes as it was, every counter at zero. -/
theorem run : θ_run defs (onTc (τ := τ) (main (F := F))) (s₀ m ρ) (fun r =>
    Pipeline.RDat.FramePostR cfg0 (fun c => (dats m 0 c).toRForget outs) {main_cst} (V m) r ∧ r.2.sem = fun _ => 0) :=
  Pipeline.θ_run_frame_around_T_forget (Q' := _) cfgs (dats m) (0 : Fin 1) launch0 defs₀ Variants.none outs {main_cst} m ρ main
    (hbody := body_ok m) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      rw [List.mem_singleton] at hops; subst hops
      simp only [hostOps1, List.mem_cons, List.not_mem_nil, or_false] at hop
      subst hop
      rw [Finset.mem_singleton]
      by_contra hne
      exact absurd (Finset.mem_singleton.mp hb) (StableHlo.devRef_ne_of_ne hne))
    (hmain := hmain m Variants.none) (hA := A_eq m) (hΦ := fun _ _ => rfl)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => by
    obtain ⟨h, hs⟩ := hr
    refine ⟨fun c => ⟨?_, ?_, ?_, ?_, ?_, ?_, ?_, ?_, ?_, ?_⟩, hs⟩
    · exact (Pipeline.RDat.FramePostR.arr_in h c 0 rfl).trans ((A_eq m c 0).trans (V_main_arg0 m c))
    · exact ((h c).2 main_arg1 (Finset.mem_sdiff.mpr ⟨Pipeline.mem_restRefs_of main_arg1 (by decide) (by decide), by decide⟩)).trans (V_main_arg1 m c)
    · exact ((h c).2 main_arg2 (Finset.mem_sdiff.mpr ⟨Pipeline.mem_restRefs_of main_arg2 (by decide) (by decide), by decide⟩)).trans (V_main_arg2 m c)
    · exact (Pipeline.RDat.FramePostR.arr_in h c 3 rfl).trans ((A_eq m c 3).trans (V_main_arg3 m c))
    · exact (Pipeline.RDat.FramePostR.arr_in h c 4 rfl).trans ((A_eq m c 4).trans (V_main_arg4 m c))
    · exact (Pipeline.RDat.FramePostR.arr_in h c 5 rfl).trans ((A_eq m c 5).trans (V_main_arg5 m c))
    · exact (Pipeline.RDat.FramePostR.arr_in h c 6 rfl).trans ((A_eq m c 6).trans (V_main_arg6 m c))
    · exact (Pipeline.RDat.FramePostR.arr_in h c 7 rfl).trans ((A_eq m c 7).trans (V_main_arg7 m c))
    · exact (Pipeline.RDat.FramePostR.arr_in h c 8 rfl).trans ((A_eq m c 8).trans (V_main_arg8 m c))
    · exact (Pipeline.RDat.FramePostR.arr_in h c 9 rfl).trans ((A_eq m c 9).trans (V_main_arg9 m c))) (run m ρ)

end Cert.Kernel.Safe

end
-- ==== Proof.Vote.lean ====
/-
  What the kernel's body computes, named. The vectors are the printed program's; nothing here is proved of their numbers.

  For one voter and one group of 64 rows, `top1`, `top2`, `top3` are the lane-wise running three largest after `k` slices of
  128 lanes, `cand` the 384 kept candidates, `thr c n` the `n + 1`-th largest distinct entry of a row of `c`, by masking. `pick`
  marks the logits at or above the candidates' eighth; `fast` is the sum of the four voters' marks, `bad` the test of a row with
  more than 32 of them; `kth l n` is the masking over a whole row, `exact` the largest of the four voters' marks by it.
-/
module

public import proofs.«01_k».proof.Proof.Gen.KernelIdeal.Frame

@[expose] public section

noncomputable section

namespace Cert.KernelIdeal.Vote

open Cert.KernelIdeal Cert.KernelIdeal.Gen
open Idealize.ShloMosaic Idealize.ShloMosaic.TcCoe

variable {F : FTy → Type} [FloatOps F] [Named F]

/-- The value below every number, everywhere in a vector of shape `s`. -/
abbrev negB (s : Shape) : FVec F s .f32 := broadcast s (Named.named κ "neg" 0xFF61B1E6#32 : F .f32)

/-- Slice `k` of `l`: the 128 lanes from `128 * k`. -/
def lane (l : FVec F S64x4096 .f32) (k : ℕ) : FVec F S64x128 .f32 :=
  if h : S64x4096.Slices ![0, 128 * k] S64x128 then extractStridedSlice S64x128 ![0, 128 * k] l h else negB S64x128

/-- The largest of the first `k` slices, lane by lane; -/
def top1 (l : FVec F S64x4096 .f32) : ℕ → FVec F S64x128 .f32
  | 0 => negB S64x128
  | k + 1 => maximumf (top1 l k) (lane l k)

/-- what slice `k` pushes out of it; -/
def low1 (l : FVec F S64x4096 .f32) (k : ℕ) : FVec F S64x128 .f32 := minimumf (top1 l k) (lane l k)

/-- the second largest; -/
def top2 (l : FVec F S64x4096 .f32) : ℕ → FVec F S64x128 .f32
  | 0 => negB S64x128
  | k + 1 => maximumf (top2 l k) (low1 l k)

/-- what slice `k` pushes out of that; -/
def low2 (l : FVec F S64x4096 .f32) (k : ℕ) : FVec F S64x128 .f32 := minimumf (top2 l k) (low1 l k)

/-- the third largest. -/
def top3 (l : FVec F S64x4096 .f32) : ℕ → FVec F S64x128 .f32
  | 0 => negB S64x128
  | k + 1 => maximumf (top3 l k) (low2 l k)

/-- Three slices side by side. -/
def beside (x y z : FVec F S64x128 .f32) : FVec F S64x384 .f32 :=
  concatenate S64x384 1 [⟨S64x128, x⟩, ⟨S64x128, y⟩, ⟨S64x128, z⟩] concatenates_S64x128_S64x128_S64x128_S64x384_d1

/-- Four columns one below the other. -/
def below (x y z w : FVec F S64x1 .f32) : FVec F S256x1 .f32 :=
  concatenate S256x1 0 [⟨S64x1, x⟩, ⟨S64x1, y⟩, ⟨S64x1, z⟩, ⟨S64x1, w⟩] concatenates_S64x1_S64x1_S64x1_S64x1_S256x1_d0

/-- The three kept at every lane after all 32 slices, side by side: a row's 384 candidates. -/
def cand (l : FVec F S64x4096 .f32) : FVec F S64x384 .f32 := beside (top1 l 32) (top2 l 32) (top3 l 32)

/-- A row's largest candidate. -/
def rmax (c : FVec F S64x384 .f32) : FVec F S64 .f32 :=
  multiReduction .maximumf [1] S64 c 0xFF800000#32 reduces_S64x384_S64 (.inl rfl) rfl

/-- A whole row's largest. -/
def rmaxB (l : FVec F S256x4096 .f32) : FVec F S256 .f32 :=
  multiReduction .maximumf [1] S256 l 0xFF800000#32 reduces_S256x4096_S256 (.inl rfl) rfl

/-- Row by row the largest of `c`, then `n` times the largest below the one before. -/
def thr (c : FVec F S64x384 .f32) : ℕ → FVec F S64x1 .f32
  | 0 => shapeCast S64x1 (rmax c) shapeCasts_S64_S64x1
  | n + 1 => shapeCast S64x1 (rmax
      (select (cmpf .olt c (broadcastTo S64x384 (thr c n) broadcasts_S64x1_S64x384)) c (negB S64x384))) shapeCasts_S64_S64x1

/-- The same of a whole block's rows. -/
def kth (l : FVec F S256x4096 .f32) : ℕ → FVec F S256x1 .f32
  | 0 => shapeCast S256x1 (rmaxB l) shapeCasts_S256_S256x1
  | n + 1 => shapeCast S256x1 (rmaxB
      (select (cmpf .olt l (broadcastTo S256x4096 (kth l n) broadcasts_S256x1_S256x4096)) l (negB S256x4096)))
      shapeCasts_S256_S256x1

/-- The 64 rows of a block from `o`. -/
def rows (l : FVec F S256x4096 .f32) (o : ℕ) : FVec F S64x4096 .f32 :=
  if h : S256x4096.Slices ![o, 0] S64x4096 then extractStridedSlice S64x4096 ![o, 0] l h else negB S64x4096

/-- Every row's threshold of the fast way: the eighth of its candidates. -/
def fastThr (l : FVec F S256x4096 .f32) : FVec F S256x1 .f32 :=
  below (thr (cand (rows l 0)) 7) (thr (cand (rows l 64)) 7) (thr (cand (rows l 128)) 7) (thr (cand (rows l 192)) 7)

/-- 1 where a row's logit is at or above the row's threshold `t`, else 0. -/
def mark (l : FVec F S256x4096 .f32) (t : FVec F S256x1 .f32) : FVec F S256x4096 .f32 :=
  sitofp .f32 (extui 32 (cmpf .oge l (broadcastTo S256x4096 t broadcasts_S256x1_S256x4096)) natLt_1_32)

/-- The first layer of a block of rows. -/
def hid (x w : FVec F S256x256 .f32) (b : FVec F S256 .f32) : FVec F S256x256 .f32 :=
  maximumf (addf (matmul dot_S256x256_S256x256_S256x256_1_0_0_1_n_n none x
      (shapeCast S256x256 w shapeCasts_S256x256_S256x256) (constant S256x256 .f32 0x00000000#32))
    (broadcastTo S256x256 (shapeCast S1x256 (shapeCast S256 b shapeCasts_S256_S256) shapeCasts_S256_S1x256)
      broadcasts_S1x256_S256x256)) (broadcast S256x256 (Scalar.ofBits .f32 0x00000000#32))

/-- The 64 columns of the first layer from `o`: one voter's. -/
def cols (h : FVec F S256x256 .f32) (o : ℕ) : FVec F S256x64 .f32 :=
  if hs : S256x256.Slices ![0, o] S256x64 then extractStridedSlice S256x64 ![0, o] h hs else negB S256x64

/-- One voter's logits, from its columns of the first layer and its weights and bias. -/
def logits (h : FVec F S256x64 .f32) (w : FVec F S1x64x4096 .f32) (b : FVec F S1x4096 .f32) : FVec F S256x4096 .f32 :=
  addf (matmul dot_S256x64_S64x4096_S256x4096_1_0_0_1_n_n none h
      (shapeCast S64x4096 w shapeCasts_S1x64x4096_S64x4096) (constant S256x4096 .f32 0x00000000#32))
    (broadcastTo S256x4096 (shapeCast S1x4096 (shapeCast S4096 b shapeCasts_S1x4096_S4096) shapeCasts_S4096_S1x4096)
      broadcasts_S1x4096_S256x4096)

/-- How many voters mark a place, the fast way. -/
def count (l0 l1 l2 l3 : FVec F S256x4096 .f32) : FVec F S256x4096 .f32 :=
  addf (addf (addf (mark l0 (fastThr l0)) (mark l1 (fastThr l1))) (mark l2 (fastThr l2))) (mark l3 (fastThr l3))

/-- 1 where some voter marks a place, the slow way. -/
def exact (l0 l1 l2 l3 : FVec F S256x4096 .f32) : FVec F S256x4096 .f32 :=
  maximumf (maximumf (maximumf (mark l0 (kth l0 7)) (mark l1 (kth l1 7))) (mark l2 (kth l2 7))) (mark l3 (kth l3 7))

/-- The sum of a row. -/
def rsum (c : FVec F S256x4096 .f32) : FVec F S256 .f32 :=
  multiReduction .add [1] S256 c 0x00000000#32 reduces_S256x4096_S256 (.inl rfl) rfl

/-- The largest of a column. -/
def cmax (v : FVec F S1x256x1 .f32) : FVec F S1 .f32 :=
  multiReduction .maximumf [1, 2] S1 v 0xFF800000#32 reduces_S1x256x1_S1 (.inl rfl) rfl

/-- 1 if some row of `c` sums to more than 32 and a half, else 0. -/
def bad (c : FVec F S256x4096 .f32) : F .f32 :=
  extractAt ![0, 0, 0] (shapeCast S1x1x1 (cmax (shapeCast S1x256x1
    (select (cmpf .ogt (shapeCast S256x1 (rsum c) shapeCasts_S256_S256x1)
        (broadcast S256x1 (Scalar.addf (Scalar.ofBits (F := F) .f32 0x42000000#32) (Scalar.ofBits .f32 0x3F000000#32))))
      (broadcast S256x1 (Scalar.ofBits (F := F) .f32 0x3F800000#32)) (broadcast S256x1 (Scalar.ofBits (F := F) .f32 0x00000000#32)))
    shapeCasts_S256x1_S1x256x1)) shapeCasts_S1_S1x1x1) inpos_S1x1x1_p0_0_0

/-- The kernel's test that the slow way is needed. -/
def flag (c : FVec F S256x4096 .f32) : BitVec 1 :=
  Scalar.cmpi .ne (Scalar.extui (Scalar.cmpf .ogt (bad c) (Scalar.ofBits (F := F) .f32 0x3F000000#32)) : BitVec 32) 0#32

/-- The count cut off at 1. -/
def cut (c : FVec F S256x4096 .f32) : FVec F S256x4096 .f32 := minimumf c (broadcast S256x4096 (Scalar.ofBits .f32 0x3F800000#32))

/-- The decoder of a block of k-hot rows. -/
def dec (k : FVec F S256x4096 .f32) (cb : FVec F S4096x64 .f32) (d1 : FVec F S64x64 .f32) (e1 : FVec F S64 .f32)
    (d2 : FVec F S64x256 .f32) (e2 : FVec F S256 .f32) : FVec F S256x256 .f32 :=
  addf (matmul dot_S256x64_S64x256_S256x256_1_0_0_1_n_n none
      (maximumf (addf (matmul dot_S256x64_S64x64_S256x64_1_0_0_1_n_n none
          (matmul dot_S256x4096_S4096x64_S256x64_1_0_0_1_n_n none
            (shapeCast S256x4096 k shapeCasts_S256x4096_S256x4096) cb (constant S256x64 .f32 0x00000000#32))
          d1 (constant S256x64 .f32 0x00000000#32))
        (broadcastTo S256x64 (shapeCast S1x64 e1 shapeCasts_S64_S1x64) broadcasts_S1x64_S256x64))
        (broadcast S256x64 (Scalar.ofBits .f32 0x00000000#32)))
      d2 (constant S256x256 .f32 0x00000000#32))
    (broadcastTo S256x256 (shapeCast S1x256 e2 shapeCasts_S256_S1x256) broadcasts_S1x256_S256x256)

section Folds

variable (l : FVec F S64x4096 .f32)

/-- A slice cut out is the lane slice of its number. -/
theorem lane_eq (o : ℕ) (h : S64x4096.Slices ![0, o] S64x128) (ho : 128 * (o / 128) = o) :
    extractStridedSlice S64x128 ![0, o] l h = lane l (o / 128) := by
  have key : ∀ o' (e : o' = o), extractStridedSlice S64x128 ![0, o] l h
      = if h : S64x4096.Slices ![0, o'] S64x128 then extractStridedSlice S64x128 ![0, o'] l h else negB S64x128 := by
    rintro _ rfl; exact (dif_pos h).symm
  exact key _ ho
/-- The first slice starts the largest; -/
theorem top1_one : maximumf (negB S64x128) (lane l 0) = top1 l 1 := rfl
/-- it pushes out the filler; -/
theorem low1_zero : minimumf (negB S64x128) (lane l 0) = low1 l 0 := rfl
/-- which starts the second largest, -/
theorem top2_one : maximumf (negB S64x128) (low1 l 0) = top2 l 1 := rfl
/-- pushes out the filler again, -/
theorem low2_zero : minimumf (negB S64x128) (low1 l 0) = low2 l 0 := rfl
/-- and starts the third. -/
theorem top3_one : maximumf (negB S64x128) (low2 l 0) = top3 l 1 := rfl
/-- A further slice updates the largest; -/
theorem top1_next (k : ℕ) : maximumf (top1 l k) (lane l k) = top1 l (k + 1) := rfl
/-- what it pushes out of it -/
theorem low1_next (k : ℕ) : minimumf (top1 l k) (lane l k) = low1 l k := rfl
/-- updates the second largest; -/
theorem top2_next (k : ℕ) : maximumf (top2 l k) (low1 l k) = top2 l (k + 1) := rfl
/-- what that pushes out -/
theorem low2_next (k : ℕ) : minimumf (top2 l k) (low1 l k) = low2 l k := rfl
/-- updates the third. -/
theorem top3_next (k : ℕ) : maximumf (top3 l k) (low2 l k) = top3 l (k + 1) := rfl

variable {l}

/-- Three slices joined are `beside`. -/
theorem beside_eq (x y z : FVec F S64x128 .f32) (h) :
    concatenate S64x384 1 [⟨S64x128, x⟩, ⟨S64x128, y⟩, ⟨S64x128, z⟩] h = beside x y z := rfl
/-- Four columns joined are `below`. -/
theorem below_eq (x y z w : FVec F S64x1 .f32) (h) :
    concatenate S256x1 0 [⟨S64x1, x⟩, ⟨S64x1, y⟩, ⟨S64x1, z⟩, ⟨S64x1, w⟩] h = below x y z w := rfl
/-- The three kept, side by side, are the candidates. -/
theorem cand_eq : beside (top1 l 32) (top2 l 32) (top3 l 32) = cand l := rfl
/-- The reduction of the candidates is `rmax`. -/
theorem rmax_eq (c : FVec F S64x384 .f32) (hr) :
    multiReduction .maximumf [1] S64 c 0xFF800000#32 hr (.inl rfl) rfl = rmax c := rfl
/-- The reduction of whole rows is `rmaxB`. -/
theorem rmaxB_eq (l : FVec F S256x4096 .f32) (hr) :
    multiReduction .maximumf [1] S256 l 0xFF800000#32 hr (.inl rfl) rfl = rmaxB l := rfl
/-- The first threshold is the largest candidate. -/
theorem thr_zero (hc) : shapeCast S64x1 (rmax (cand l)) hc = thr (cand l) 0 := rfl
/-- The next is the largest candidate below it. -/
theorem thr_next (n : ℕ) (hb hc) : shapeCast S64x1 (rmax
      (select (cmpf .olt (cand l) (broadcastTo S64x384 (thr (cand l) n) hb)) (cand l) (negB S64x384))) hc
    = thr (cand l) (n + 1) := rfl
/-- Sixty-four rows cut out are `rows`. -/
theorem rows_eq (l : FVec F S256x4096 .f32) (o : ℕ) (h : S256x4096.Slices ![o, 0] S64x4096) :
    extractStridedSlice S64x4096 ![o, 0] l h = rows l o := (dif_pos h).symm
/-- Sixty-four columns cut out are `cols`. -/
theorem cols_eq (l : FVec F S256x256 .f32) (o : ℕ) (h : S256x256.Slices ![0, o] S256x64) :
    extractStridedSlice S256x64 ![0, o] l h = cols l o := (dif_pos h).symm
/-- The four parts' eighth thresholds are the block's. -/
theorem fastThr_eq (l : FVec F S256x4096 .f32) : below (thr (cand (rows l 0)) 7) (thr (cand (rows l 64)) 7)
    (thr (cand (rows l 128)) 7) (thr (cand (rows l 192)) 7) = fastThr l := rfl
/-- The comparison as a number is `mark`. -/
theorem mark_eq (l : FVec F S256x4096 .f32) (t : FVec F S256x1 .f32) (hb hn) :
    sitofp .f32 (extui 32 (cmpf .oge l (broadcastTo S256x4096 t hb)) hn) = mark l t := rfl
/-- The first product, its bias and the cut at 0 are `hid`. -/
theorem hid_eq (x w : FVec F S256x256 .f32) (b : FVec F S256 .f32) (h1 h2 h3 h4) :
    maximumf (addf (matmul dot_S256x256_S256x256_S256x256_1_0_0_1_n_n none x
      (shapeCast S256x256 w h1) (constant S256x256 .f32 0x00000000#32))
    (broadcastTo S256x256 (shapeCast S1x256 (shapeCast S256 b h2) h3) h4))
    (broadcast S256x256 (Scalar.ofBits .f32 0x00000000#32)) = hid x w b := rfl
/-- The second product and its bias are `logits`. -/
theorem logits_eq (h : FVec F S256x64 .f32) (w : FVec F S1x64x4096 .f32) (b : FVec F S1x4096 .f32) (h1 h2 h3 h4) :
    addf (matmul dot_S256x64_S64x4096_S256x4096_1_0_0_1_n_n none h
      (shapeCast S64x4096 w h1) (constant S256x4096 .f32 0x00000000#32))
    (broadcastTo S256x4096 (shapeCast S1x4096 (shapeCast S4096 b h2) h3) h4) = logits h w b := rfl
/-- The first round of the rescue is the largest logit. -/
theorem kth_zero (h : FVec F S256x64 .f32) (w : FVec F S1x64x4096 .f32) (b : FVec F S1x4096 .f32) (hc) :
    shapeCast S256x1 (rmaxB (logits h w b)) hc = kth (logits h w b) 0 := rfl
/-- The next is the largest logit below it. -/
theorem kth_next (l : FVec F S256x4096 .f32) (n : ℕ) (hb hc) : shapeCast S256x1 (rmaxB
      (select (cmpf .olt l (broadcastTo S256x4096 (kth l n) hb)) l (negB S256x4096))) hc = kth l (n + 1) := rfl
/-- The largest of the four rescued marks is `exact`. -/
theorem exact_eq (l0 l1 l2 l3 : FVec F S256x4096 .f32) : maximumf (maximumf (maximumf (mark l0 (kth l0 7)) (mark l1 (kth l1 7)))
    (mark l2 (kth l2 7))) (mark l3 (kth l3 7)) = exact l0 l1 l2 l3 := rfl
/-- The sum of the four fast marks is `count`. -/
theorem count_eq (l0 l1 l2 l3 : FVec F S256x4096 .f32) : addf (addf (addf (mark l0 (fastThr l0)) (mark l1 (fastThr l1)))
    (mark l2 (fastThr l2))) (mark l3 (fastThr l3)) = count l0 l1 l2 l3 := rfl
/-- The smaller of a count and 1 is `cut`. -/
theorem cut_eq (c : FVec F S256x4096 .f32) : minimumf c (broadcast S256x4096 (Scalar.ofBits .f32 0x3F800000#32)) = cut c := rfl

/-- The codebook and the two decoder layers are `dec`. -/
theorem dec_eq (k : FVec F S256x4096 .f32) (cb : FVec F S4096x64 .f32) (d1 : FVec F S64x64 .f32) (e1 : FVec F S64 .f32)
    (d2 : FVec F S64x256 .f32) (e2 : FVec F S256 .f32) (h1 h2 h3 h4 h5) : addf (matmul dot_S256x64_S64x256_S256x256_1_0_0_1_n_n none
      (maximumf (addf (matmul dot_S256x64_S64x64_S256x64_1_0_0_1_n_n none
          (matmul dot_S256x4096_S4096x64_S256x64_1_0_0_1_n_n none
            (shapeCast S256x4096 k h1) cb (constant S256x64 .f32 0x00000000#32)) d1 (constant S256x64 .f32 0x00000000#32))
        (broadcastTo S256x64 (shapeCast S1x64 e1 h2) h3))
        (broadcast S256x64 (Scalar.ofBits .f32 0x00000000#32))) d2 (constant S256x256 .f32 0x00000000#32))
    (broadcastTo S256x256 (shapeCast S1x256 e2 h4) h5) = dec k cb d1 e1 d2 e2 := rfl
/-- The sum of rows is `rsum`. -/
theorem rsum_eq (c : FVec F S256x4096 .f32) (hr) :
    multiReduction .add [1] S256 c 0x00000000#32 hr (.inl rfl) rfl = rsum c := rfl
/-- The reduction of a column is `cmax`. -/
theorem cmax_eq (v : FVec F S1x256x1 .f32) (hr) :
    multiReduction .maximumf [1, 2] S1 v 0xFF800000#32 hr (.inl rfl) rfl = cmax v := rfl
/-- The test of the rows' sums is `flag`. -/
theorem flag_eq (c : FVec F S256x4096 .f32) (h2 h3 h5 h6) :
    Scalar.cmpi .ne (Scalar.extui (Scalar.cmpf .ogt (extractAt ![0, 0, 0] (shapeCast S1x1x1 (cmax
      (shapeCast S1x256x1 (select (cmpf .ogt (shapeCast S256x1 (rsum c) h2)
        (broadcast S256x1 (Scalar.addf (Scalar.ofBits (F := F) .f32 0x42000000#32) (Scalar.ofBits .f32 0x3F000000#32))))
      (broadcast S256x1 (Scalar.ofBits (F := F) .f32 0x3F800000#32)) (broadcast S256x1 (Scalar.ofBits (F := F) .f32 0x00000000#32)))
      h3)) h5) h6) (Scalar.ofBits (F := F) .f32 0x3F000000#32)) : BitVec 32) 0#32 = flag c := rfl

end Folds

end Cert.KernelIdeal.Vote

end
-- ==== Proof.Brief.lean ====
/-
  The kernel's body, run by hand: the printed program, some four thousand lines in seventy-seven parts, is the short program
  `brief` below — load, vote, store, and if some row has too many marks vote again the slow way and store that, then decode —
  whose vectors are the named ones. Every line of the printed body is folded into its name as it is met.
-/
module

public import proofs.«01_k».proof.Proof.Vote

@[expose] public section

noncomputable section

namespace Cert.KernelIdeal.Vote

open Cert.KernelIdeal Cert.KernelIdeal.Gen
open Idealize.ShloMosaic Idealize.ShloMosaic.TcCoe Idealize.SL.Sem

variable {F : FTy → Type} [FloatOps F] [Named F]

/-- The first program when the bit is set, else the second. -/
def pick {α : Type*} (b : BitVec 1) (x y : α) : α := if b = 1#1 then x else y

/-- However the bit's test was decided, the choice is `pick`. -/
theorem pick_eq {α : Type*} (b : BitVec 1) (h : Decidable (b = 1#1)) (x y : α) :
    @ite α (b = 1#1) h x y = pick b x y := by
  unfold pick
  by_cases c : b = 1#1
  · rw [if_pos c, if_pos c]
  · rw [if_neg c, if_neg c]

/-- After the vote: load the k-hot block back, decode it, store the decoding. -/
def rest (arg1 : Memref sig .tc .vmem S256x256 .f32) (arg2 : Memref sig .tc .vmem S256x256 .f32) (arg3 : Memref sig .tc .vmem S256 .f32) (arg4 : Memref sig .tc .vmem S4x64x4096 .f32) (arg5 : Memref sig .tc .vmem S4x4096 .f32) (arg6 : Memref sig .tc .vmem S4096x64 .f32) (arg7 : Memref sig .tc .vmem S64x64 .f32) (arg8 : Memref sig .tc .vmem S64 .f32) (arg9 : Memref sig .tc .vmem S64x256 .f32) (arg10 : Memref sig .tc .vmem S256 .f32) (arg11 : Memref sig .tc .vmem S256x256 .f32) (arg12 : Memref sig .tc .vmem S256x4096 .f32) :
    Prog (TpuEff nD τ sig (Elt F) Λ₀ .tc) PUnit := do
  let k : Vec F S256x4096 .f32 ← Prog.lift (.load arg12 (Rect.unit (s := S256x4096) ![0, 0] S256x4096.size inb_S256x4096_S256x4096_0_0).toLoadRect (View.loadsAt_vmem h_S256x4096))
  let cb : Vec F S4096x64 .f32 ← Prog.lift (.load arg6 (Rect.unit (s := S4096x64) ![0, 0] S4096x64.size inb_S4096x64_S4096x64_0_0).toLoadRect (View.loadsAt_vmem h_S4096x64))
  let d1 : Vec F S64x64 .f32 ← Prog.lift (.load arg7 (Rect.unit (s := S64x64) ![0, 0] S64x64.size inb_S64x64_S64x64_0_0).toLoadRect (View.loadsAt_vmem h_S64x64))
  let e1 : Vec F S64 .f32 ← Prog.lift (.load arg8 (Rect.unit (s := S64) ![0] S64.size inb_S64_S64_0).toLoadRect (View.loadsAt_vmem h_S64))
  let d2 : Vec F S64x256 .f32 ← Prog.lift (.load arg9 (Rect.unit (s := S64x256) ![0, 0] S64x256.size inb_S64x256_S64x256_0_0).toLoadRect (View.loadsAt_vmem h_S64x256))
  let e2 : Vec F S256 .f32 ← Prog.lift (.load arg10 (Rect.unit (s := S256) ![0] S256.size inb_S256_S256_0).toLoadRect (View.loadsAt_vmem h_S256))
  let _ : Vec F S256x256 .f32 ← Prog.lift (.load arg11 (Rect.unit (s := S256x256) ![0, 0] S256x256.size inb_S256x256_S256x256_0_0).toLoadRect (View.loadsAt_vmem h_S256x256))
  Prog.lift (.store arg11 (Rect.unit (s := S256x256) ![0, 0] S256x256.size inb_S256x256_S256x256_0_0) (dec k cb d1 e1 d2 e2) Finset.univ (View.stores_vmem_bits_univ h_S256x256 rfl) (.inl rfl))
  pure ⟨⟩

/-- The whole body. -/
def brief (arg1 : Memref sig .tc .vmem S256x256 .f32) (arg2 : Memref sig .tc .vmem S256x256 .f32) (arg3 : Memref sig .tc .vmem S256 .f32) (arg4 : Memref sig .tc .vmem S4x64x4096 .f32) (arg5 : Memref sig .tc .vmem S4x4096 .f32) (arg6 : Memref sig .tc .vmem S4096x64 .f32) (arg7 : Memref sig .tc .vmem S64x64 .f32) (arg8 : Memref sig .tc .vmem S64 .f32) (arg9 : Memref sig .tc .vmem S64x256 .f32) (arg10 : Memref sig .tc .vmem S256 .f32) (arg11 : Memref sig .tc .vmem S256x256 .f32) (arg12 : Memref sig .tc .vmem S256x4096 .f32) :
    Prog (TpuEff nD τ sig (Elt F) Λ₀ .tc) PUnit := do
  let x : Vec F S256x256 .f32 ← Prog.lift (.load arg1 (Rect.unit (s := S256x256) ![0, 0] S256x256.size inb_S256x256_S256x256_0_0).toLoadRect (View.loadsAt_vmem h_S256x256))
  let W : Vec F S256x256 .f32 ← Prog.lift (.load arg2 (Rect.unit (s := S256x256) ![0, 0] S256x256.size inb_S256x256_S256x256_0_0).toLoadRect (View.loadsAt_vmem h_S256x256))
  let B : Vec F S256 .f32 ← Prog.lift (.load arg3 (Rect.unit (s := S256) ![0] S256.size inb_S256_S256_0).toLoadRect (View.loadsAt_vmem h_S256))
  let w0 : Vec F S1x64x4096 .f32 ← Prog.lift (.load arg4 (Rect.unit (s := S4x64x4096) ![0, 0, 0] S1x64x4096.size inb_S4x64x4096_S1x64x4096_0_0_0).toLoadRect (View.loadsAt_vmem h_S1x64x4096))
  let c0 : Vec F S1x4096 .f32 ← Prog.lift (.load arg5 (Rect.unit (s := S4x4096) ![0, 0] S1x4096.size inb_S4x4096_S1x4096_0_0).toLoadRect (View.loadsAt_vmem h_S1x4096))
  let w1 : Vec F S1x64x4096 .f32 ← Prog.lift (.load arg4 (Rect.unit (s := S4x64x4096) ![1, 0, 0] S1x64x4096.size inb_S4x64x4096_S1x64x4096_1_0_0).toLoadRect (View.loadsAt_vmem h_S1x64x4096))
  let c1 : Vec F S1x4096 .f32 ← Prog.lift (.load arg5 (Rect.unit (s := S4x4096) ![1, 0] S1x4096.size inb_S4x4096_S1x4096_1_0).toLoadRect (View.loadsAt_vmem h_S1x4096))
  let w2 : Vec F S1x64x4096 .f32 ← Prog.lift (.load arg4 (Rect.unit (s := S4x64x4096) ![2, 0, 0] S1x64x4096.size inb_S4x64x4096_S1x64x4096_2_0_0).toLoadRect (View.loadsAt_vmem h_S1x64x4096))
  let c2 : Vec F S1x4096 .f32 ← Prog.lift (.load arg5 (Rect.unit (s := S4x4096) ![2, 0] S1x4096.size inb_S4x4096_S1x4096_2_0).toLoadRect (View.loadsAt_vmem h_S1x4096))
  let w3 : Vec F S1x64x4096 .f32 ← Prog.lift (.load arg4 (Rect.unit (s := S4x64x4096) ![3, 0, 0] S1x64x4096.size inb_S4x64x4096_S1x64x4096_3_0_0).toLoadRect (View.loadsAt_vmem h_S1x64x4096))
  let c3 : Vec F S1x4096 .f32 ← Prog.lift (.load arg5 (Rect.unit (s := S4x4096) ![3, 0] S1x4096.size inb_S4x4096_S1x4096_3_0).toLoadRect (View.loadsAt_vmem h_S1x4096))
  let _ : Vec F S256x4096 .f32 ← Prog.lift (.load arg12 (Rect.unit (s := S256x4096) ![0, 0] S256x4096.size inb_S256x4096_S256x4096_0_0).toLoadRect (View.loadsAt_vmem h_S256x4096))
  Prog.lift (.store arg12 (Rect.unit (s := S256x4096) ![0, 0] S256x4096.size inb_S256x4096_S256x4096_0_0) (cut (count (logits (cols (hid x W B) 0) w0 c0) (logits (cols (hid x W B) 64) w1 c1) (logits (cols (hid x W B) 128) w2 c2) (logits (cols (hid x W B) 192) w3 c3))) Finset.univ (View.stores_vmem_bits_univ h_S256x4096 rfl) (.inl rfl))
  let _ ← (if flag (count (logits (cols (hid x W B) 0) w0 c0) (logits (cols (hid x W B) 64) w1 c1) (logits (cols (hid x W B) 128) w2 c2) (logits (cols (hid x W B) 192) w3 c3)) = 1#1 then (do
    let w0' : Vec F S1x64x4096 .f32 ← Prog.lift (.load arg4 (Rect.unit (s := S4x64x4096) ![0, 0, 0] S1x64x4096.size inb_S4x64x4096_S1x64x4096_0_0_0).toLoadRect (View.loadsAt_vmem h_S1x64x4096))
    let c0' : Vec F S1x4096 .f32 ← Prog.lift (.load arg5 (Rect.unit (s := S4x4096) ![0, 0] S1x4096.size inb_S4x4096_S1x4096_0_0).toLoadRect (View.loadsAt_vmem h_S1x4096))
    let w1' : Vec F S1x64x4096 .f32 ← Prog.lift (.load arg4 (Rect.unit (s := S4x64x4096) ![1, 0, 0] S1x64x4096.size inb_S4x64x4096_S1x64x4096_1_0_0).toLoadRect (View.loadsAt_vmem h_S1x64x4096))
    let c1' : Vec F S1x4096 .f32 ← Prog.lift (.load arg5 (Rect.unit (s := S4x4096) ![1, 0] S1x4096.size inb_S4x4096_S1x4096_1_0).toLoadRect (View.loadsAt_vmem h_S1x4096))
    let w2' : Vec F S1x64x4096 .f32 ← Prog.lift (.load arg4 (Rect.unit (s := S4x64x4096) ![2, 0, 0] S1x64x4096.size inb_S4x64x4096_S1x64x4096_2_0_0).toLoadRect (View.loadsAt_vmem h_S1x64x4096))
    let c2' : Vec F S1x4096 .f32 ← Prog.lift (.load arg5 (Rect.unit (s := S4x4096) ![2, 0] S1x4096.size inb_S4x4096_S1x4096_2_0).toLoadRect (View.loadsAt_vmem h_S1x4096))
    let w3' : Vec F S1x64x4096 .f32 ← Prog.lift (.load arg4 (Rect.unit (s := S4x64x4096) ![3, 0, 0] S1x64x4096.size inb_S4x64x4096_S1x64x4096_3_0_0).toLoadRect (View.loadsAt_vmem h_S1x64x4096))
    let c3' : Vec F S1x4096 .f32 ← Prog.lift (.load arg5 (Rect.unit (s := S4x4096) ![3, 0] S1x4096.size inb_S4x4096_S1x4096_3_0).toLoadRect (View.loadsAt_vmem h_S1x4096))
    let _ : Vec F S256x4096 .f32 ← Prog.lift (.load arg12 (Rect.unit (s := S256x4096) ![0, 0] S256x4096.size inb_S256x4096_S256x4096_0_0).toLoadRect (View.loadsAt_vmem h_S256x4096))
    Prog.lift (.store arg12 (Rect.unit (s := S256x4096) ![0, 0] S256x4096.size inb_S256x4096_S256x4096_0_0) (exact (logits (cols (hid x W B) 0) w0' c0') (logits (cols (hid x W B) 64) w1' c1') (logits (cols (hid x W B) 128) w2' c2') (logits (cols (hid x W B) 192) w3' c3')) Finset.univ (View.stores_vmem_bits_univ h_S256x4096 rfl) (.inl rfl))
    rest arg1 arg2 arg3 arg4 arg5 arg6 arg7 arg8 arg9 arg10 arg11 arg12)
    else rest arg1 arg2 arg3 arg4 arg5 arg6 arg7 arg8 arg9 arg10 arg11 arg12 : Prog (TpuEff nD τ sig (Elt F) Λ₀ .tc) PUnit)
  pure ⟨⟩

set_option maxRecDepth 16384 in
set_option maxHeartbeats 4000000 in
/-- The printed body is `brief`. -/
theorem body_eq (i : grid0.Coords) (arg1 : Memref sig .tc .vmem S256x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S4x64x4096 .f32) (harg4 : arg4.IsWhole) (arg5 : Memref sig .tc .vmem S4x4096 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256x4096 .f32) (harg12 : arg12.IsWhole) :
    cc0__body (F := F) i arg1 harg1 arg2 harg2 arg3 harg3 arg4 harg4 arg5 harg5 arg6 harg6 arg7 harg7 arg8 harg8 arg9 harg9 arg10 harg10 arg11 harg11 arg12 harg12 = brief arg1 arg2 arg3 arg4 arg5 arg6 arg7 arg8 arg9 arg10 arg11 arg12 := by
  simp (maxSteps := 10000000) only [cc0__body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, lane_eq, top1_one, low1_zero, top2_one, low2_zero, top3_one, top1_next, low1_next, top2_next, low2_next, top3_next, ↓beside_eq, ↓below_eq, cand_eq, thr_zero, thr_next, rows_eq, cols_eq, fastThr_eq, mark_eq, hid_eq, logits_eq, ↓rmax_eq, ↓rmaxB_eq, kth_zero, kth_next, exact_eq, count_eq, cut_eq, dec_eq, ↓rsum_eq, ↓cmax_eq, flag_eq, pick_eq, brief, rest, pure_bind, bind_assoc, bind_pure, Nat.reduceMul, Nat.reduceAdd, Nat.reduceDiv]

end Cert.KernelIdeal.Vote

end
-- ==== Proof.Body.lean ====
/-
  What one step of the grid leaves in its two output blocks, as functions of its ten input blocks, and the body's run.
-/
module

public import proofs.«01_k».proof.Proof.Brief
public import Idealize.ShloMosaic.Lib.VecWindow
public import Idealize.ShloMosaic.Lib.Pipeline.Value

@[expose] public section

noncomputable section

namespace Cert.KernelIdeal.Vote

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The rectangle of voter `v`'s weights in the stacked weights. -/
abbrev wRect (v : ℕ) (h : ∀ a, (![v, 0, 0] : Fin 3 → ℕ) a + S1x64x4096.size a ≤ S4x64x4096.size a) : Rect S4x64x4096 :=
  Rect.unit (s := S4x64x4096) ![v, 0, 0] S1x64x4096.size h

/-- The rectangle of voter `v`'s bias in the stacked biases. -/
abbrev cRect (v : ℕ) (h : ∀ a, (![v, 0] : Fin 2 → ℕ) a + S1x4096.size a ≤ S4x4096.size a) : Rect S4x4096 :=
  Rect.unit (s := S4x4096) ![v, 0] S1x4096.size h

/-- The four voters' logits of one block of rows. -/
def log0 (x W : Vec F S256x256 .f32) (B : Vec F S256 .f32) (w : Vec F S4x64x4096 .f32) (c : Vec F S4x4096 .f32) : Vec F S256x4096 .f32 :=
  logits (cols (hid x W B) 0) (View.ld w (wRect 0 inb_S4x64x4096_S1x64x4096_0_0_0)) (View.ld c (cRect 0 inb_S4x4096_S1x4096_0_0))
@[inherit_doc log0]
def log1 (x W : Vec F S256x256 .f32) (B : Vec F S256 .f32) (w : Vec F S4x64x4096 .f32) (c : Vec F S4x4096 .f32) : Vec F S256x4096 .f32 :=
  logits (cols (hid x W B) 64) (View.ld w (wRect 1 inb_S4x64x4096_S1x64x4096_1_0_0)) (View.ld c (cRect 1 inb_S4x4096_S1x4096_1_0))
@[inherit_doc log0]
def log2 (x W : Vec F S256x256 .f32) (B : Vec F S256 .f32) (w : Vec F S4x64x4096 .f32) (c : Vec F S4x4096 .f32) : Vec F S256x4096 .f32 :=
  logits (cols (hid x W B) 128) (View.ld w (wRect 2 inb_S4x64x4096_S1x64x4096_2_0_0)) (View.ld c (cRect 2 inb_S4x4096_S1x4096_2_0))
@[inherit_doc log0]
def log3 (x W : Vec F S256x256 .f32) (B : Vec F S256 .f32) (w : Vec F S4x64x4096 .f32) (c : Vec F S4x4096 .f32) : Vec F S256x4096 .f32 :=
  logits (cols (hid x W B) 192) (View.ld w (wRect 3 inb_S4x64x4096_S1x64x4096_3_0_0)) (View.ld c (cRect 3 inb_S4x4096_S1x4096_3_0))

/-- The k-hot block of four voters' logits: the quick vote, or the slow one when some row has too many marks. -/
def khot (l0 l1 l2 l3 : Vec F S256x4096 .f32) : Vec F S256x4096 .f32 :=
  pick (flag (count l0 l1 l2 l3)) (exact l0 l1 l2 l3) (cut (count l0 l1 l2 l3))

/-- The k-hot block a step leaves. -/
def outK (x W : Vec F S256x256 .f32) (B : Vec F S256 .f32) (w : Vec F S4x64x4096 .f32) (c : Vec F S4x4096 .f32) : Vec F S256x4096 .f32 :=
  khot (log0 x W B w c) (log1 x W B w c) (log2 x W B w c) (log3 x W B w c)

/-- The decoded block a step leaves. -/
def outR (x W : Vec F S256x256 .f32) (B : Vec F S256 .f32) (w : Vec F S4x64x4096 .f32) (c : Vec F S4x4096 .f32)
    (cb : Vec F S4096x64 .f32) (d1 : Vec F S64x64 .f32) (e1 : Vec F S64 .f32) (d2 : Vec F S64x256 .f32) (e2 : Vec F S256 .f32) : Vec F S256x256 .f32 :=
  dec (outK x W B w c) cb d1 e1 d2 e2

/-- Reading a whole view written in full on both sides of a choice reads what the choice stored last. -/
theorem read_choice {sp : Space} {S : Shape} (v : View sig .tc sp S .f32) (f : v.ty.Contents (Elt F))
    {off : Fin S.rank → ℕ} (inb : ∀ a, off a + S.size a ≤ S.size a) (b : BitVec 1)
    (p q : (Rect.unit off S.size inb).shape.Idx → Elt F .f32) (L : List (View.Piece (Elt F) S .f32)) :
    v.read (Elt F) (if h : b = 1#1 then v.writes (Elt F) f (⟨Rect.unit off S.size inb, p⟩ :: L)
      else v.writes (Elt F) f (⟨Rect.unit off S.size inb, q⟩ :: [])) = pick b p q := by
  unfold pick
  by_cases h : b = 1#1
  · rw [dif_pos h, if_pos h]
    exact View.read_writes_full v f inb p L
  · rw [dif_neg h, if_neg h]
    exact View.read_writes_full v f inb q []

/-- Two zeros, as a shape's offsets. -/
theorem zeros2 : (![0, 0] : Fin 2 → ℕ) = fun _ => 0 := by
  funext a; fin_cases a <;> rfl

/-- One zero, as a shape's offset. -/
theorem zeros1 : (![0] : Fin 1 → ℕ) = fun _ => 0 := by
  funext a; fin_cases a; rfl

/-- Loading the whole of a block first changes nothing: `outK`. -/
theorem outK_ld (x W : Vec F S256x256 .f32) (B : Vec F S256 .f32) (w : Vec F S4x64x4096 .f32) (c : Vec F S4x4096 .f32) :
    outK (View.ld x (Rect.unit (s := S256x256) ![0, 0] S256x256.size inb_S256x256_S256x256_0_0))
      (View.ld W (Rect.unit (s := S256x256) ![0, 0] S256x256.size inb_S256x256_S256x256_0_0))
      (View.ld B (Rect.unit (s := S256) ![0] S256.size inb_S256_S256_0)) w c = outK x W B w c := by
  rw [View.ld_unit_zero zeros2 _ x, View.ld_unit_zero zeros2 _ W, View.ld_unit_zero zeros1 _ B]

/-- Loading the whole of a block first changes nothing: `outR`. -/
theorem outR_ld (x W : Vec F S256x256 .f32) (B : Vec F S256 .f32) (w : Vec F S4x64x4096 .f32) (c : Vec F S4x4096 .f32)
    (cb : Vec F S4096x64 .f32) (d1 : Vec F S64x64 .f32) (e1 : Vec F S64 .f32) (d2 : Vec F S64x256 .f32) (e2 : Vec F S256 .f32) :
    outR (View.ld x (Rect.unit (s := S256x256) ![0, 0] S256x256.size inb_S256x256_S256x256_0_0))
      (View.ld W (Rect.unit (s := S256x256) ![0, 0] S256x256.size inb_S256x256_S256x256_0_0))
      (View.ld B (Rect.unit (s := S256) ![0] S256.size inb_S256_S256_0)) w c
      (View.ld cb (Rect.unit (s := S4096x64) ![0, 0] S4096x64.size inb_S4096x64_S4096x64_0_0))
      (View.ld d1 (Rect.unit (s := S64x64) ![0, 0] S64x64.size inb_S64x64_S64x64_0_0))
      (View.ld e1 (Rect.unit (s := S64) ![0] S64.size inb_S64_S64_0))
      (View.ld d2 (Rect.unit (s := S64x256) ![0, 0] S64x256.size inb_S64x256_S64x256_0_0))
      (View.ld e2 (Rect.unit (s := S256) ![0] S256.size inb_S256_S256_0)) = outR x W B w c cb d1 e1 d2 e2 := by
  rw [View.ld_unit_zero zeros2 _ x, View.ld_unit_zero zeros2 _ W, View.ld_unit_zero zeros1 _ B,
    View.ld_unit_zero zeros2 _ cb, View.ld_unit_zero zeros2 _ d1, View.ld_unit_zero zeros1 _ e1,
    View.ld_unit_zero zeros2 _ d2, View.ld_unit_zero zeros1 _ e2]

set_option maxHeartbeats 4000000 in
set_option maxRecDepth 16384 in
/-- The body, run on twelve whole blocks, leaves the inputs as they were and the outputs at `outR` and `outK` of them. -/
theorem sound_kernel (c : Dev nD) (E : Set ℕ) (i : grid0.Coords) (arg1 : Memref sig .tc .vmem S256x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S4x64x4096 .f32) (harg4 : arg4.IsWhole) (arg5 : Memref sig .tc .vmem S4x4096 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256x4096 .f32) (harg12 : arg12.IsWhole)
    (x0 : Vec F S256x256 .f32) (x1 : Vec F S256x256 .f32) (x2 : Vec F S256 .f32) (x3 : Vec F S4x64x4096 .f32) (x4 : Vec F S4x4096 .f32) (x5 : Vec F S4096x64 .f32) (x6 : Vec F S64x64 .f32) (x7 : Vec F S64 .f32) (x8 : Vec F S64x256 .f32) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outR x0 x1 x2 x3 x4 x5 x6 x7 x8 x9) ∗ owns (c : Thread nD τ) arg12 fullShare (outK x0 x1 x2 x3 x4)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  rw [body_eq]; unfold brief rest
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_full _ _ _ _ _).trans ?_
    refine Eq.trans ?_ (outR_ld _ _ _ _ _ _ _ _ _ _)
    unfold sound_kernel.sl.k
    refine congrArg (fun k => dec k _ _ _ _ _) ?_
    exact (View.readAt_full _ _ _).trans (read_choice (F := F) arg12.view f11 inb_S256x4096_S256x4096_0_0 _ _ _ _)
  iexists _; isplitr
  swap; · iexact H11
  ipureintro
  refine Eq.trans ?_ (outK_ld _ _ _ _ _)
  exact read_choice (F := F) arg12.view f11 inb_S256x4096_S256x4096_0_0 _ _ _ _

end Cert.KernelIdeal.Vote

end
-- ==== Proof.Run.lean ====
/-
  The kernel's whole run: sixteen steps, each leaving `outR` and `outK` of its blocks, between the lines that lay the
  first layer's weights out and the line that returns the constant.
-/
module

public import proofs.«01_k».proof.Proof.Body
public import Idealize.ShloMosaic.Lib.Claim

@[expose] public section

set_option maxRecDepth 16384

noncomputable section

namespace Cert.KernelIdeal.Vote

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the arrays as the region finds them, each input block left in place, the decoded block at `outR` and the
    k-hot block at `outK` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outR (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => outK (iblk m c 0 t) (iblk m c 1 t) (iblk m c 2 t) (iblk m c 3 t) (iblk m c 4 t)
  Φ _ := Pipeline.ΦA spec0 c
  q _ := fullShare
  owed _ := 0

/-- The arrays are those the region is entered with. -/
theorem A_eq (c : Dev nD) (w : Fin cfg0.W) : (dats m 0 c).A w = V m c (Pipeline.arrRef spec0 w) := by
  dsimp only [dats]

/-- What each window's buffer holds after the body. -/
theorem after0_0 (c : Dev nD) (t : Fin cfg0.N) : (dats m 0 c).after 0 t = iblk m c 0 t := by dsimp only [dats]
/-- A step leaves input 1's block as it was. -/
theorem after0_1 (c : Dev nD) (t : Fin cfg0.N) : (dats m 0 c).after 1 t = iblk m c 1 t := by dsimp only [dats]
/-- A step leaves input 2's block as it was. -/
theorem after0_2 (c : Dev nD) (t : Fin cfg0.N) : (dats m 0 c).after 2 t = iblk m c 2 t := by dsimp only [dats]
/-- A step leaves input 3's block as it was. -/
theorem after0_3 (c : Dev nD) (t : Fin cfg0.N) : (dats m 0 c).after 3 t = iblk m c 3 t := by dsimp only [dats]
/-- A step leaves input 4's block as it was. -/
theorem after0_4 (c : Dev nD) (t : Fin cfg0.N) : (dats m 0 c).after 4 t = iblk m c 4 t := by dsimp only [dats]
/-- A step leaves input 5's block as it was. -/
theorem after0_5 (c : Dev nD) (t : Fin cfg0.N) : (dats m 0 c).after 5 t = iblk m c 5 t := by dsimp only [dats]
/-- A step leaves input 6's block as it was. -/
theorem after0_6 (c : Dev nD) (t : Fin cfg0.N) : (dats m 0 c).after 6 t = iblk m c 6 t := by dsimp only [dats]
/-- A step leaves input 7's block as it was. -/
theorem after0_7 (c : Dev nD) (t : Fin cfg0.N) : (dats m 0 c).after 7 t = iblk m c 7 t := by dsimp only [dats]
/-- A step leaves input 8's block as it was. -/
theorem after0_8 (c : Dev nD) (t : Fin cfg0.N) : (dats m 0 c).after 8 t = iblk m c 8 t := by dsimp only [dats]
/-- A step leaves input 9's block as it was. -/
theorem after0_9 (c : Dev nD) (t : Fin cfg0.N) : (dats m 0 c).after 9 t = iblk m c 9 t := by dsimp only [dats]
/-- A step leaves the decoded rows in the first output's block. -/
theorem after0_10 (c : Dev nD) (t : Fin cfg0.N) : (dats m 0 c).after 10 t = outR (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- A step leaves the k-hot rows in the second output's block. -/
theorem after0_11 (c : Dev nD) (t : Fin cfg0.N) : (dats m 0 c).after 11 t = outK (iblk m c 0 t) (iblk m c 1 t) (iblk m c 2 t) (iblk m c 3 t) (iblk m c 4 t) := by dsimp only [dats]

/-- Before the body each input's buffer holds its block. -/
theorem before0_0 (c : Dev nD) (t : Fin cfg0.N) (d) : (dats m 0 c).before 0 t d = iblk m c 0 t :=
  before0_0_of m (dats m 0 c) (A_eq m c 0) (after0_0 m c) t d
/-- A step finds input 1's block. -/
theorem before0_1 (c : Dev nD) (t : Fin cfg0.N) (d) : (dats m 0 c).before 1 t d = iblk m c 1 t :=
  before0_1_of m (dats m 0 c) (A_eq m c 1) (after0_1 m c) t d
/-- A step finds input 2's block. -/
theorem before0_2 (c : Dev nD) (t : Fin cfg0.N) (d) : (dats m 0 c).before 2 t d = iblk m c 2 t :=
  before0_2_of m (dats m 0 c) (A_eq m c 2) (after0_2 m c) t d
/-- A step finds input 3's block. -/
theorem before0_3 (c : Dev nD) (t : Fin cfg0.N) (d) : (dats m 0 c).before 3 t d = iblk m c 3 t :=
  before0_3_of m (dats m 0 c) (A_eq m c 3) (after0_3 m c) t d
/-- A step finds input 4's block. -/
theorem before0_4 (c : Dev nD) (t : Fin cfg0.N) (d) : (dats m 0 c).before 4 t d = iblk m c 4 t :=
  before0_4_of m (dats m 0 c) (A_eq m c 4) (after0_4 m c) t d
/-- A step finds input 5's block. -/
theorem before0_5 (c : Dev nD) (t : Fin cfg0.N) (d) : (dats m 0 c).before 5 t d = iblk m c 5 t :=
  before0_5_of m (dats m 0 c) (A_eq m c 5) (after0_5 m c) t d
/-- A step finds input 6's block. -/
theorem before0_6 (c : Dev nD) (t : Fin cfg0.N) (d) : (dats m 0 c).before 6 t d = iblk m c 6 t :=
  before0_6_of m (dats m 0 c) (A_eq m c 6) (after0_6 m c) t d
/-- A step finds input 7's block. -/
theorem before0_7 (c : Dev nD) (t : Fin cfg0.N) (d) : (dats m 0 c).before 7 t d = iblk m c 7 t :=
  before0_7_of m (dats m 0 c) (A_eq m c 7) (after0_7 m c) t d
/-- A step finds input 8's block. -/
theorem before0_8 (c : Dev nD) (t : Fin cfg0.N) (d) : (dats m 0 c).before 8 t d = iblk m c 8 t :=
  before0_8_of m (dats m 0 c) (A_eq m c 8) (after0_8 m c) t d
/-- A step finds input 9's block. -/
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at point `t`, on the blocks of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The table of bodies has this body at point `t`. -/
theorem defs₀_row (t : Fin cfg0.N) :
    defs₀ (F := F) .tc cfg0.body (cfg0.bodyArgs t (cfg0.slots t)) = bodyAt0 t := by
  unfold defs₀; rw [Defs.onTc_tc]

/-- The body is right at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole program runs to the end: the two outputs hold what the steps leave, every semaphore counter is zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Vote

end
-- ==== Proof.Pure.lean ====
/-
  The votes, as mathematics of extended reals, with no program in sight.

  A row of numbers `f` has the top eight `p` when `f` falls strictly along `p` and every other place lies strictly below.
  `nth f n` is what `n + 1` rounds of "the largest below the last" arrive at. For a row with a top eight it is the place's
  value (`nth_eq`), and for candidates picked out of the row it never lies above (`nth_le`); so a threshold taken from candidates
  marks the top eight at least, and marks nothing else when the marks are few enough (`marks_of_sum`).
-/
module

public import Idealize.ShloMosaic.Lib.Pointwise

@[expose] public section

noncomputable section

namespace Cert.Votes

/-- `p` lists the eight largest places of the row `f`, in strictly falling order, everything else strictly below them. -/
structure Top {ι : Type} (f : ι → EReal) (p : Fin 8 → ι) : Prop where
  strict : ∀ j k, j < k → f (p k) < f (p j)
  rest : ∀ i, (∃ k, p k = i) ∨ f i < f (p 7)

/-- The largest of `f`, then `n` times the largest of those below the one before. -/
def nth {ι : Type} [Fintype ι] (f : ι → EReal) : ℕ → EReal
  | 0 => (Finset.univ : Finset ι).fold max ⊥ f
  | n + 1 => (Finset.univ : Finset ι).fold max ⊥ fun i => if f i < nth f n then f i else ⊥

section

variable {ι κ : Type} [Fintype ι] [Fintype κ] {f : ι → EReal} {p : Fin 8 → ι}

/-- The listed values fall. -/
theorem Top.anti (h : Top f p) {j k : Fin 8} (hjk : j ≤ k) : f (p k) ≤ f (p j) := by
  rcases hjk.lt_or_eq with h' | rfl
  · exact (h.strict _ _ h').le
  · exact le_rfl

/-- Different numbers list different places. -/
theorem Top.injective (h : Top f p) : Function.Injective p := by
  intro j k e
  rcases lt_trichotomy j k with h' | h' | h'
  · exact absurd (h.strict _ _ h') (by rw [e]; exact lt_irrefl _)
  · exact h'
  · exact absurd (h.strict _ _ h') (by rw [e]; exact lt_irrefl _)

/-- What lies below the `n`th listed value lies at or below the next. -/
theorem Top.le_next (h : Top f p) {n : ℕ} (hn : n + 1 < 8) {i : ι} (hi : f i < f (p ⟨n, by omega⟩)) : f i ≤ f (p ⟨n + 1, hn⟩) := by
  rcases h.rest i with ⟨k, rfl⟩ | h'
  · refine h.anti ?_
    by_contra hk
    have : k ≤ ⟨n, by omega⟩ := by
      rw [Fin.le_def] at hk ⊢
      simp only at hk ⊢
      omega
    exact absurd hi (not_lt.mpr (h.anti this))
  · exact h'.le.trans (h.anti (by rw [Fin.le_def]; simp only [Fin.isValue, Fin.reduceFinMk, Fin.val_natCast]; omega))

/-- Nothing lies above the first listed value. -/
theorem Top.le_first (h : Top f p) (i : ι) : f i ≤ f (p ⟨0, by omega⟩) := by
  rcases h.rest i with ⟨k, rfl⟩ | h'
  · exact h.anti (by rw [Fin.le_def]; exact Nat.zero_le _)
  · exact h'.le.trans (h.anti (by rw [Fin.le_def]; exact Nat.zero_le _))

/-- The rounds over candidates taken from a row never lie above the row's own listed values. -/
theorem nth_le (h : Top f p) (c : κ → EReal) (hc : ∀ j, c j = ⊥ ∨ ∃ i, c j = f i) :
    ∀ n (hn : n < 8), nth c n ≤ f (p ⟨n, hn⟩)
  | 0, _ => by
    rw [nth, Finset.fold_max_le]
    refine ⟨bot_le, fun j _ => ?_⟩
    rcases hc j with e | ⟨i, e⟩ <;> rw [e]
    · exact bot_le
    · exact h.le_first i
  | n + 1, hn => by
    rw [nth, Finset.fold_max_le]
    refine ⟨bot_le, fun j _ => ?_⟩
    split
    · rename_i hlt
      have hlt' := lt_of_lt_of_le hlt (nth_le h c hc n (by omega))
      rcases hc j with e | ⟨i, e⟩ <;> rw [e] at hlt' ⊢
      · exact bot_le
      · exact h.le_next hn hlt'
    · exact bot_le

/-- The rounds over the whole row are the listed values. -/
theorem nth_eq (h : Top f p) : ∀ n (hn : n < 8), nth f n = f (p ⟨n, hn⟩)
  | 0, hn => by
    refine le_antisymm (nth_le h f (fun j => .inr ⟨j, rfl⟩) 0 hn) ?_
    rw [nth, Finset.le_fold_max]
    exact .inr ⟨_, Finset.mem_univ _, le_rfl⟩
  | n + 1, hn => by
    refine le_antisymm (nth_le h f (fun j => .inr ⟨j, rfl⟩) (n + 1) hn) ?_
    rw [nth, Finset.le_fold_max]
    refine .inr ⟨p ⟨n + 1, hn⟩, Finset.mem_univ _, ?_⟩
    rw [nth_eq h n (by omega), if_pos (h.strict _ _ (by rw [Fin.lt_def]; exact Nat.lt_succ_self n))]

/-- The eighth listed value marks the listed places and no other. -/
theorem Top.mark_iff (h : Top f p) (i : ι) : f (p 7) ≤ f i ↔ ∃ k, p k = i := by
  constructor
  · intro hle
    rcases h.rest i with h' | h'
    · exact h'
    · exact absurd h' (not_lt.mpr hle)
  · rintro ⟨k, rfl⟩
    exact h.anti (Fin.le_last k)

open Classical in
/-- 1 where `P` holds, else 0. -/
def ind (P : Prop) : EReal := if P then 1 else 0

/-- The indicator of what holds is 1. -/
theorem ind_pos {P : Prop} (h : P) : ind P = 1 := by unfold ind; rw [if_pos h]
/-- The indicator of what fails is 0. -/
theorem ind_neg {P : Prop} (h : ¬P) : ind P = 0 := by unfold ind; rw [if_neg h]

open Classical in
/-- The places where `P` holds, -/
def places (P : ι → Prop) : Finset ι := Finset.univ.filter P

/-- A place is in the set when it has the property. -/
theorem mem_places (P : ι → Prop) (i : ι) : i ∈ places P ↔ P i := by simp [places]

/-- A row's sum of marks is the number of marked places. -/
theorem sum_ind (P : ι → Prop) : ∑ i, ind (P i) = (((places P).card : ℕ) : EReal) := by
  unfold ind places
  rw [Finset.card_filter, Nat.cast_sum]
  refine Finset.sum_congr rfl fun i _ => ?_
  by_cases hp : P i <;> simp [hp]

open Classical in
/-- A threshold at or below the eighth marks at least the eight, -/
theorem Top.card_ge (h : Top f p) {t : EReal} (ht : t ≤ f (p 7)) :
    Finset.univ.image p ⊆ places (fun i => t ≤ f i) ∧ (Finset.univ.image p).card = 8 := by
  constructor
  · intro i hi
    obtain ⟨k, -, rfl⟩ := Finset.mem_image.mp hi
    exact (mem_places _ _).mpr (ht.trans (h.anti (Fin.le_last k)))
  · rw [Finset.card_image_of_injective _ h.injective]; rfl

open Classical in
/-- and nothing else if it marks no more than eight. -/
theorem Top.mark_of_card (h : Top f p) {t : EReal} (ht : t ≤ f (p 7)) (hc : (places (fun i => t ≤ f i)).card ≤ 8) (i : ι) :
    t ≤ f i ↔ ∃ k, p k = i := by
  have e := Finset.eq_of_subset_of_card_le (h.card_ge ht).1 (by rw [(h.card_ge ht).2]; exact hc)
  have := Finset.ext_iff.mp e i
  simp only [Finset.mem_image, Finset.mem_univ, true_and, mem_places] at this
  exact this.symm

/-- A whole number at most 32 and a half is at most 32. -/
theorem le_of_half {n : ℕ} (h : (n : ℝ) ≤ 32.5) : n ≤ 32 := by
  by_contra hn
  have : (33 : ℝ) ≤ n := by exact_mod_cast not_le.mp hn
  norm_num at h
  linarith

/-- Four rows marked by thresholds at or below their eighths: if all the marks together are at most 32 and a half, every
    threshold marks its row's top eight and nothing else. -/
theorem marks_of_sum {f : Fin 4 → ι → EReal} {p : Fin 4 → Fin 8 → ι} (h : ∀ v, Top (f v) (p v)) {t : Fin 4 → EReal}
    (ht : ∀ v, t v ≤ f v (p v 7))
    (hs : ∑ i, (ind (t 0 ≤ f 0 i) + ind (t 1 ≤ f 1 i) + ind (t 2 ≤ f 2 i) + ind (t 3 ≤ f 3 i)) ≤ ((32.5 : ℝ) : EReal)) (v : Fin 4) (i : ι) :
    t v ≤ f v i ↔ ∃ k, p v k = i := by
  classical
  refine (h v).mark_of_card (ht v) ?_ i
  have hge : ∀ v, 8 ≤ (places (fun i => t v ≤ f v i)).card := fun v => by
    have := (h v).card_ge (ht v)
    rw [← this.2]; exact Finset.card_le_card this.1
  simp only [Finset.sum_add_distrib, sum_ind] at hs
  rw [← Nat.cast_add, ← Nat.cast_add, ← Nat.cast_add, ← EReal.coe_natCast, EReal.coe_le_coe_iff] at hs
  have hs' := le_of_half hs
  have h0 := hge 0
  have h1 := hge 1
  have h2 := hge 2
  have h3 := hge 3
  fin_cases v <;> simp only [Fin.zero_eta, Fin.mk_one, Fin.reduceFinMk] <;> omega

/-- Some of four. -/
def any (P : Fin 4 → Prop) : Prop := ∃ v, P v

/-- Some voter of the four: the first, second, third or fourth. -/
theorem any_iff (P : Fin 4 → Prop) : any P ↔ P 0 ∨ P 1 ∨ P 2 ∨ P 3 := by
  unfold any
  constructor
  · rintro ⟨v, hv⟩
    fin_cases v
    · exact .inl hv
    · exact .inr (.inl hv)
    · exact .inr (.inr (.inl hv))
    · exact .inr (.inr (.inr hv))
  · rintro (h | h | h | h)
    exacts [⟨_, h⟩, ⟨_, h⟩, ⟨_, h⟩, ⟨_, h⟩]

/-- Each of the four ways to join four marks gives 1 where some mark is 1: their largest, -/
theorem max_marks (P : Fin 4 → Prop) : max (max (max (ind (P 0)) (ind (P 1))) (ind (P 2))) (ind (P 3)) = ind (any P) := by
  by_cases h0 : P 0 <;> by_cases h1 : P 1 <;> by_cases h2 : P 2 <;> by_cases h3 : P 3 <;> simp [ind, any_iff, h0, h1, h2, h3]

/-- a sum of marks is one of the first whole numbers, -/
theorem ind_nat (P : Prop) : ∃ n : ℕ, ind P = ((n : ℝ) : EReal) ∧ (P ↔ 1 ≤ n) := by
  by_cases h : P
  · exact ⟨1, by simp [ind_pos h], by simp [h]⟩
  · exact ⟨0, by simp [ind_neg h], by simp [h]⟩

/-- their sum cut off at 1. -/
theorem cut_marks (P : Fin 4 → Prop) : min (ind (P 0) + ind (P 1) + ind (P 2) + ind (P 3)) 1 = ind (any P) := by
  obtain ⟨a, ea, ha⟩ := ind_nat (P 0)
  obtain ⟨b, eb, hb⟩ := ind_nat (P 1)
  obtain ⟨c, ec, hc⟩ := ind_nat (P 2)
  obtain ⟨d, ed, hd⟩ := ind_nat (P 3)
  have e1 : (1 : EReal) = ((1 : ℝ) : EReal) := rfl
  rw [ea, eb, ec, ed, ← EReal.coe_add, ← EReal.coe_add, ← EReal.coe_add, e1]
  by_cases h : any P
  · have : 1 ≤ a + b + c + d := by
      rw [any_iff, ha, hb, hc, hd] at h; omega
    rw [ind_pos h, min_eq_right (by rw [EReal.coe_le_coe_iff]; exact_mod_cast this), e1]
  · have : a = 0 ∧ b = 0 ∧ c = 0 ∧ d = 0 := by
      rw [any_iff, ha, hb, hc, hd] at h; omega
    obtain ⟨rfl, rfl, rfl, rfl⟩ := this
    rw [ind_neg h]
    simp

end

end Cert.Votes

end
-- ==== Proof.Read.lean ====
/-
  The vote's vectors, read place by place over the extended reals.
-/
module

public import proofs.«01_k».proof.Proof.Body
public import proofs.«01_k».proof.Proof.Pure

@[expose] public section

noncomputable section

namespace Cert.KernelIdeal.Vote

open Cert.KernelIdeal Cert.KernelIdeal.Gen Cert.Votes
open Idealize.ShloMosaic Idealize.ShloMosaic.TcCoe

/-- The value below every number is the least extended real. -/
theorem neg_eq : (Named.named κ "neg" 0xFF61B1E6#32 : Ideal .f32) = ⊥ := rfl

/-- The pattern of minus infinity is the least extended real. -/
theorem inf_eq : Ideal.ofBits .f32 0xFF800000#32 = ⊥ := by simp [Ideal.ofBits, Ideal.ieee]

/-- The pattern of 1, -/
theorem one_eq : Ideal.ofBits .f32 0x3F800000#32 = 1 := by
  simp [Ideal.ofBits, Ideal.ieee, -EReal.coe_mul]; norm_num

/-- of a half, -/
theorem half_eq : Ideal.ofBits .f32 0x3F000000#32 = ((0.5 : ℝ) : EReal) := by
  simp [Ideal.ofBits, Ideal.ieee, -EReal.coe_mul]; norm_num

/-- and of 32. -/
theorem thirty_two_eq : Ideal.ofBits .f32 0x42000000#32 = ((32 : ℝ) : EReal) := by
  simp [Ideal.ofBits, Ideal.ieee, -EReal.coe_mul]; norm_num

/-- A truth widened to a word and converted is 1 or 0. -/
theorem sitofp_ind (P : Prop) [Decidable P] :
    (FloatOps.sitofp .f32 (BitVec.setWidth 32 (BitVec.ofBool (decide P))) : Ideal .f32) = ind P := by
  by_cases h : P
  · rw [ind_pos h, decide_eq_true h]
    show (((1#32 : BitVec 32).toInt : ℝ) : EReal) = 1
    norm_num
  · rw [ind_neg h, decide_eq_false h]
    show (((0#32 : BitVec 32).toInt : ℝ) : EReal) = 0
    norm_num

/-- The masking rounds of a row are the rounds over its entries: of the candidates, -/
theorem thr_apply (c : FVec Ideal S64x384 .f32) (r : Fin 64) : ∀ n, thr c n (ix2 r 0) = nth (fun j : Fin 384 => c (ix2 r j)) n
  | 0 => by
    rw [nth]
    pointwise [thr, rmax, inf_eq]
  | n + 1 => by
    rw [nth, ← thr_apply c r n]
    pointwise [thr, rmax, neg_eq, inf_eq]

/-- and of the logits. -/
theorem kth_apply (l : FVec Ideal S256x4096 .f32) (r : Fin 256) : ∀ n, kth l n (ix2 r 0) = nth (fun j : Fin 4096 => l (ix2 r j)) n
  | 0 => by
    rw [nth]
    pointwise [kth, rmaxB, inf_eq]
  | n + 1 => by
    rw [nth, ← kth_apply l r n]
    pointwise [kth, rmaxB, neg_eq, inf_eq]

/-- A mark is 1 where the logit is at or above the threshold, else 0. -/
theorem mark_apply (l : FVec Ideal S256x4096 .f32) (t : FVec Ideal S256x1 .f32) (r : Fin 256) (q : Fin 4096) :
    mark l t (ix2 r q) = ind (t (ix2 r 0) ≤ l (ix2 r q)) := by
  pointwise [mark]
  exact sitofp_ind _

/-- A row's sum at a row. -/
theorem rsum_apply (c : FVec Ideal S256x4096 .f32) (r : Fin 256) :
    rsum c (ix1 r) = ∑ q : Fin 4096, c (ix2 r q) := by
  pointwise [rsum]

/-- The test is 1 as soon as one row sums to more than 32 and a half. -/
theorem bad_apply (c : FVec Ideal S256x4096 .f32) :
    bad c = (Finset.univ : Finset (Fin 256 × Fin 1)).fold max ⊥ fun r => if ((32.5 : ℝ) : EReal) < rsum c (ix1 r.1) then 1 else 0 := by
  have e : Ideal.ofBits .f32 0x42000000#32 + Ideal.ofBits .f32 0x3F000000#32 = ((32.5 : ℝ) : EReal) := by
    rw [half_eq, thirty_two_eq, ← EReal.coe_add]; norm_num
  pointwise [bad, cmax, inf_eq, e]

/-- What is at least 1 is above a half. -/
theorem above_half {x : Ideal .f32} (hx : (1 : EReal) ≤ x) :
    Scalar.cmpf .ogt x (Scalar.ofBits (F := Ideal) .f32 0x3F000000#32) = 1#1 := by
  have h : Ideal.ofBits .f32 0x3F000000#32 < (x : EReal) := by
    rw [half_eq]
    refine lt_of_lt_of_le ?_ hx
    show ((0.5 : ℝ) : EReal) < ((1 : ℝ) : EReal)
    rw [EReal.coe_lt_coe_iff]; norm_num
  exact congrArg BitVec.ofBool (decide_eq_true h)

/-- Without the flag no row sums to more. -/
theorem sum_le_of_flag {c : FVec Ideal S256x4096 .f32} (h : flag c ≠ 1#1) (r : Fin 256) :
    ∑ q : Fin 4096, c (ix2 r q) ≤ ((32.5 : ℝ) : EReal) := by
  rw [← rsum_apply]
  by_contra hlt
  refine h ?_
  have hb : (1 : EReal) ≤ bad c := by
    rw [bad_apply, Finset.le_fold_max]
    exact .inr ⟨(r, 0), Finset.mem_univ _, (if_pos (not_le.mp hlt)).ge⟩
  unfold flag
  rw [above_half hb]; rfl

/-- `x` is one of the row's numbers, or below every number. -/
def From {ι : Type} (f : ι → EReal) (x : EReal) : Prop := x = ⊥ ∨ ∃ i, x = f i

/-- The larger of two of the row's numbers is one of them. -/
theorem From.max {ι : Type} {f : ι → EReal} {x y : EReal} (hx : From f x) (hy : From f y) : From f (max x y) := by
  rcases max_choice x y with e | e <;> rw [e] <;> assumption

/-- The smaller too. -/
theorem From.min {ι : Type} {f : ι → EReal} {x y : EReal} (hx : From f x) (hy : From f y) : From f (min x y) := by
  rcases min_choice x y with e | e <;> rw [e] <;> assumption

section Candidates

variable (l : FVec Ideal S64x4096 .f32) (r : Fin 64) (q : Fin 128)

/-- A slice's numbers are the row's. -/
theorem from_lane (k : ℕ) : From (fun j : Fin 4096 => l (ix2 r j)) (lane l k (ix2 r q)) := by
  unfold lane
  split
  · refine .inr ⟨⟨128 * k + q.val, ?_⟩, ?_⟩
    · rename_i h
      have := h.2 1
      simp at this
      omega
    · pointwise
  · exact .inl rfl

/-- The three numbers a lane keeps are the row's own. -/
theorem from_top (k : ℕ) : From (fun j : Fin 4096 => l (ix2 r j)) (top1 l k (ix2 r q))
    ∧ From (fun j : Fin 4096 => l (ix2 r j)) (top2 l k (ix2 r q)) ∧ From (fun j : Fin 4096 => l (ix2 r j)) (top3 l k (ix2 r q)) := by
  induction k with
  | zero => exact ⟨.inl rfl, .inl rfl, .inl rfl⟩
  | succ k ih =>
    obtain ⟨h1, h2, h3⟩ := ih
    have h0 := from_lane l r q k
    exact ⟨h1.max h0, h2.max (h1.min h0), h3.max (h2.min (h1.min h0))⟩

/-- So is every candidate. -/
theorem from_cand (j : Fin 384) : From (fun j : Fin 4096 => l (ix2 r j)) (cand l (ix2 r j)) := by
  unfold cand
  pointwise [beside]
  split
  · exact (from_top l r _ 32).1
  split
  · exact (from_top l r _ 32).2.1
  · exact (from_top l r _ 32).2.2

end Candidates

/-- The quick threshold of a row never lies above its eighth logit: in a group of 64 rows, -/
theorem thr_rows_le (l : FVec Ideal S256x4096 .f32) (o : ℕ) (h : S256x4096.Slices ![o, 0] S64x4096) (r : Fin 64) (r' : Fin 256)
    (e : o + r.val = r'.val) {p : Fin 8 → Fin 4096} (hp : Top (fun q : Fin 4096 => l (ix2 r' q)) p) :
    thr (cand (rows l o)) 7 (ix2 r 0) ≤ l (ix2 r' (p 7)) := by
  rw [thr_apply]
  have hr : ∀ q : Fin 4096, rows l o (ix2 r q) = l (ix2 r' q) := by
    intro q
    rw [rows, dif_pos h]
    pointwise
    exact congrArg (fun a => l (ix2 a q)) (Fin.ext e)
  refine nth_le hp _ (fun j => ?_) 7 (by omega)
  rcases from_cand (rows l o) r j with h' | ⟨i, h'⟩
  · exact .inl h'
  · exact .inr ⟨i, h'.trans (hr i)⟩

/-- and in the block. -/
theorem fastThr_le (l : FVec Ideal S256x4096 .f32) (r : Fin 256) {p : Fin 8 → Fin 4096}
    (hp : Top (fun q : Fin 4096 => l (ix2 r q)) p) : fastThr l (ix2 r 0) ≤ l (ix2 r (p 7)) := by
  have hlt := r.isLt
  pointwise [fastThr, below]
  split
  · exact thr_rows_le l 0 ⟨rfl, by decide⟩ _ r (by simp) hp
  split
  · exact thr_rows_le l 64 ⟨rfl, by decide⟩ _ r (by simp only; omega) hp
  split
  · exact thr_rows_le l 128 ⟨rfl, by decide⟩ _ r (by simp only; omega) hp
  · exact thr_rows_le l 192 ⟨rfl, by decide⟩ _ r (by simp only; omega) hp

/-- The k-hot block of four voters whose every row has a top eight is 1 where some voter lists the place, else 0. -/
theorem khot_apply (l : Fin 4 → FVec Ideal S256x4096 .f32) (p : Fin 256 → Fin 4 → Fin 8 → Fin 4096)
    (hp : ∀ r v, Top (fun q : Fin 4096 => l v (ix2 r q)) (p r v)) (r : Fin 256) (q : Fin 4096) :
    khot (F := Ideal) (l 0) (l 1) (l 2) (l 3) (ix2 r q) = ind (any fun v => ∃ k, p r v k = q) := by
  unfold khot pick
  by_cases hf : flag (count (l 0) (l 1) (l 2) (l 3)) = 1#1
  · rw [if_pos hf]
    have e : ∀ v, mark (l v) (kth (l v) 7) (ix2 r q) = ind (∃ k, p r v k = q) := fun v => by
      rw [mark_apply, kth_apply, nth_eq (hp r v) 7 (by omega)]
      exact congrArg ind (propext ((hp r v).mark_iff q))
    rw [← max_marks fun v => ∃ k, p r v k = q, ← e, ← e, ← e, ← e]
    rfl
  · rw [if_neg hf]
    have hs := sum_le_of_flag hf r
    have e : ∀ v q, mark (l v) (fastThr (l v)) (ix2 r q) = ind (fastThr (l v) (ix2 r 0) ≤ l v (ix2 r q)) := fun v q => mark_apply _ _ _ _
    have e' : ∀ q, count (l 0) (l 1) (l 2) (l 3) (ix2 r q) = ind (fastThr (l 0) (ix2 r 0) ≤ l 0 (ix2 r q))
        + ind (fastThr (l 1) (ix2 r 0) ≤ l 1 (ix2 r q)) + ind (fastThr (l 2) (ix2 r 0) ≤ l 2 (ix2 r q))
        + ind (fastThr (l 3) (ix2 r 0) ≤ l 3 (ix2 r q)) := fun q => by
      rw [← e, ← e, ← e, ← e]; rfl
    simp only [e'] at hs
    have hm := marks_of_sum (f := fun v q => l v (ix2 r q)) (hp r) (t := fun v => fastThr (l v) (ix2 r 0))
      (fun v => fastThr_le (l v) r (hp r v)) hs
    rw [← cut_marks fun v => ∃ k, p r v k = q]
    show min (count (l 0) (l 1) (l 2) (l 3) (ix2 r q)) (Ideal.ofBits .f32 0x3F800000#32) = _
    rw [e', one_eq, propext (hm 0 q), propext (hm 1 q), propext (hm 2 q), propext (hm 3 q)]

end Cert.KernelIdeal.Vote

end
-- ==== Proof.Spec.lean ====
/-
  What both programs compute, entry by entry: a voter's logits, a row's k-hot vector, the decoded row.
-/
module

public import proofs.«01_k».proof.Proof.Pure

@[expose] public section

noncomputable section

namespace Cert.Votes

open Idealize.ShloMosaic

/-- Row `b`'s logit of voter `v` at place `q`: a hidden layer of 64 cut off at zero, then a linear map. -/
def logit (x : (⟨2, ![4096, 256]⟩ : Shape).Idx → EReal) (w1 : (⟨3, ![4, 256, 64]⟩ : Shape).Idx → EReal)
    (b1 : (⟨2, ![4, 64]⟩ : Shape).Idx → EReal) (w2 : (⟨3, ![4, 64, 4096]⟩ : Shape).Idx → EReal)
    (b2 : (⟨2, ![4, 4096]⟩ : Shape).Idx → EReal) (b : Fin 4096) (v : Fin 4) (q : Fin 4096) : EReal :=
  (∑ k : Fin 64, max ((∑ d : Fin 256, x (ix2 b d) * w1 (ix3 v d k)) + b1 (ix2 v k)) 0 * w2 (ix3 v k q)) + b2 (ix2 v q)

/-- The k-hot vector of a row whose voters list `p`: 1 at the places some voter lists, else 0. -/
def hot (p : Fin 4 → Fin 8 → Fin 4096) (q : Fin 4096) : EReal := ind (any fun v => ∃ k, p v k = q)

/-- Entry `j` of the decoded row of a k-hot vector `k`: the codebook's sum, then a hidden layer of 64 cut off at zero, then a
    linear map. -/
def decoded (k : Fin 4096 → EReal) (cb : (⟨2, ![4096, 64]⟩ : Shape).Idx → EReal) (d1 : (⟨2, ![64, 64]⟩ : Shape).Idx → EReal)
    (e1 : (⟨1, ![64]⟩ : Shape).Idx → EReal) (d2 : (⟨2, ![64, 256]⟩ : Shape).Idx → EReal)
    (e2 : (⟨1, ![256]⟩ : Shape).Idx → EReal) (j : Fin 256) : EReal :=
  (∑ n : Fin 64, max ((∑ h : Fin 64, (∑ q : Fin 4096, k q * cb (ix2 q h)) * d1 (ix2 h n)) + e1 (ix1 n)) 0 * d2 (ix2 n j)) + e2 (ix1 j)

end Cert.Votes

end
-- ==== Proof.Block.lean ====
/-
  One step's blocks, entry by entry: the four voters' logits and the decoded rows are `logit` and `decoded` of the block's rows.
-/
module

public import proofs.«01_k».proof.Proof.Read
public import proofs.«01_k».proof.Proof.Spec

@[expose] public section

noncomputable section

namespace Cert.KernelIdeal.Vote

open Cert.KernelIdeal Cert.KernelIdeal.Gen Cert.Votes
open Idealize.ShloMosaic Idealize.ShloMosaic.TcCoe

variable (x W : Vec Ideal S256x256 .f32) (B : Vec Ideal S256 .f32) (w : Vec Ideal S4x64x4096 .f32) (c : Vec Ideal S4x4096 .f32)

/-- The first layer of a block. -/
theorem hid_apply (r i : Fin 256) : hid (F := Ideal) x W B (ix2 r i) = max ((∑ d : Fin 256, x (ix2 r d) * W (ix2 d i)) + B (ix1 i)) 0 := by
  pointwise [hid]

/-- A voter's columns of the first layer. -/
theorem cols_apply (h : FVec Ideal S256x256 .f32) (o : ℕ) (hs : S256x256.Slices ![0, o] S256x64) (r : Fin 256) (k : Fin 64) (i : Fin 256)
    (e : i.val = o + k.val) : cols h o (ix2 r k) = h (ix2 r i) := by
  rw [cols, dif_pos hs]
  pointwise
  exact congrArg (fun a => h (ix2 r a)) (Fin.ext e.symm)

/-- A step's logits of voter `v` at row `r` of the block are those of row `b` of the array, when the block's row `r` is the array's
    row `b` and the first layer's weights lie side by side, 64 columns for each voter. -/
theorem log_apply {X : Vec Ideal S4096x256 .f32} {w1 : Vec Ideal S4x256x64 .f32} {b1 : Vec Ideal S4x64 .f32} {r : Fin 256} {b : Fin 4096}
    (hX : ∀ d, x (ix2 r d) = X (ix2 b d)) (hW : ∀ v k d i, i.val = 64 * v.val + k.val → W (ix2 d i) = w1 (ix3 v d k))
    (hB : ∀ v k i, i.val = 64 * v.val + k.val → B (ix1 i) = b1 (ix2 v k)) (v : Fin 4) (o : ℕ) (ho : o = 64 * v.val)
    (hs : S256x256.Slices ![0, o] S256x64) (hw) (hc) (q : Fin 4096) :
    logits (F := Ideal) (cols (hid x W B) o) (View.ld w (wRect v.val hw)) (View.ld c (cRect v.val hc)) (ix2 r q) = logit X w1 b1 w c b v q := by
  have e : ∀ k : Fin 64, cols (F := Ideal) (hid x W B) o (ix2 r k) = max ((∑ d : Fin 256, X (ix2 b d) * w1 (ix3 v d k)) + b1 (ix2 v k)) 0 := by
    intro k
    have hi : 64 * v.val + k.val < 256 := by omega
    rw [cols_apply _ o hs r k ⟨64 * v.val + k.val, hi⟩ (by rw [ho]), hid_apply, hB v k _ rfl]
    refine congrArg (fun a => max (a + _) 0) (Finset.sum_congr rfl fun d _ => ?_)
    rw [hX, hW v k d _ rfl]
  pointwise [logits]
  simp only [e]
  rfl

/-- The four voters' logits of a step. -/
def logs (v : Fin 4) : Vec Ideal S256x4096 .f32 := match v with
  | 0 => log0 x W B w c
  | 1 => log1 x W B w c
  | 2 => log2 x W B w c
  | 3 => log3 x W B w c

/-- A step's logits are the problem's, of the rows that the step takes. -/
theorem logs_apply {X : Vec Ideal S4096x256 .f32} {w1 : Vec Ideal S4x256x64 .f32} {b1 : Vec Ideal S4x64 .f32} {r : Fin 256} {b : Fin 4096}
    (hX : ∀ d, x (ix2 r d) = X (ix2 b d)) (hW : ∀ v k d i, i.val = 64 * v.val + k.val → W (ix2 d i) = w1 (ix3 v d k))
    (hB : ∀ v k i, i.val = 64 * v.val + k.val → B (ix1 i) = b1 (ix2 v k)) (v : Fin 4) (q : Fin 4096) :
    logs x W B w c v (ix2 r q) = logit X w1 b1 w c b v q := by
  match v with
  | 0 => exact log_apply x W B w c hX hW hB 0 0 rfl ⟨rfl, by decide⟩ _ _ q
  | 1 => exact log_apply x W B w c hX hW hB 1 64 rfl ⟨rfl, by decide⟩ _ _ q
  | 2 => exact log_apply x W B w c hX hW hB 2 128 rfl ⟨rfl, by decide⟩ _ _ q
  | 3 => exact log_apply x W B w c hX hW hB 3 192 rfl ⟨rfl, by decide⟩ _ _ q

/-- A step's k-hot row is the array row's, for rows that all have a top eight. -/
theorem outK_apply {X : Vec Ideal S4096x256 .f32} {w1 : Vec Ideal S4x256x64 .f32} {b1 : Vec Ideal S4x64 .f32} (b : Fin 256 → Fin 4096)
    (hX : ∀ r d, x (ix2 r d) = X (ix2 (b r) d)) (hW : ∀ v k d i, i.val = 64 * v.val + k.val → W (ix2 d i) = w1 (ix3 v d k))
    (hB : ∀ v k i, i.val = 64 * v.val + k.val → B (ix1 i) = b1 (ix2 v k)) (p : Fin 4096 → Fin 4 → Fin 8 → Fin 4096)
    (hp : ∀ b v, Top (logit X w1 b1 w c b v) (p b v)) (r : Fin 256) (q : Fin 4096) :
    outK (F := Ideal) x W B w c (ix2 r q) = hot (p (b r)) q :=
  khot_apply (logs x W B w c) (fun r => p (b r)) (fun r v => by
    have e : (fun q : Fin 4096 => logs x W B w c v (ix2 r q)) = logit X w1 b1 w c (b r) v :=
      funext fun q => logs_apply x W B w c (hX r) hW hB v q
    rw [e]; exact hp (b r) v) r q

/-- A step's decoded row. -/
theorem dec_apply (k : FVec Ideal S256x4096 .f32) (cb : FVec Ideal S4096x64 .f32) (d1 : FVec Ideal S64x64 .f32) (e1 : FVec Ideal S64 .f32)
    (d2 : FVec Ideal S64x256 .f32) (e2 : FVec Ideal S256 .f32) (r j : Fin 256) :
    dec k cb d1 e1 d2 e2 (ix2 r j) = decoded (fun q => k (ix2 r q)) cb d1 e1 d2 e2 j := by
  unfold decoded
  pointwise [dec]

end Cert.KernelIdeal.Vote

end
-- ==== Proof.Arrays.lean ====
/-
  The blocks of every step read off the arrays, and the two output arrays the steps leave.
-/
module

public import proofs.«01_k».proof.Proof.Run
public import proofs.«01_k».proof.Proof.Block

@[expose] public section

set_option maxRecDepth 16384

noncomputable section

namespace Cert.KernelIdeal.Vote

open Cert.KernelIdeal Cert.KernelIdeal.Gen Cert.Votes
open Idealize.ShloMosaic Idealize.ShloMosaic.TcCoe Idealize.SL.Sem
open Idealize.ShloMosaic.Pipeline (Dat)

variable (m : (ℓ : Loc nD τ sig) → Buf (Elt Ideal) ℓ)

/-- Step `t` takes the `t`-th block of rows. -/
theorem index0 : ∀ t : Fin cfg0.N, win0_0.index t 0 = t.val ∧ win0_0.index t 1 = 0 := by decide +kernel

/-- The block of the input at a step: 256 rows of the array. -/
theorem iblk0_apply (c : Dev nD) (t : Fin cfg0.N) (r d : Fin 256) (b : Fin 4096) (e : b.val = 256 * t.val + r.val) :
    iblk m c 0 t (ix2 r d) = m ((c : Thread nD τ).loc main_arg0) (ix2 b d) := by
  unfold iblk
  rw [View.read_apply]
  refine (congrFun (V_main_arg0 m c) _).trans (congrArg _ ?_)
  obtain ⟨h0, h1⟩ := index0 t
  funext a
  apply Fin.ext
  match a with
  | ⟨0, _⟩ =>
    show win0_0.index t 0 * 256 + 1 * r.val = b.val
    rw [h0]; omega
  | ⟨1, _⟩ =>
    show win0_0.index t 1 * 256 + 1 * d.val = d.val
    rw [h1]; omega

/-- A block as large as its array starts at the array's start. -/
theorem at_zero {i s x : ℕ} (h : i = 0) : i * s + 1 * x = x := by subst h; omega

/-- The weights' blocks are whole arrays: their index is 0 in every direction, at every step. -/
theorem index1 : ∀ t : Fin cfg0.N, ∀ a, win0_1.index t a = 0 := by decide +kernel
/-- So is the block of argument 2. -/
theorem index2 : ∀ t : Fin cfg0.N, ∀ a, win0_2.index t a = 0 := by decide +kernel
/-- So is the block of argument 3. -/
theorem index3 : ∀ t : Fin cfg0.N, ∀ a, win0_3.index t a = 0 := by decide +kernel
/-- So is the block of argument 4. -/
theorem index4 : ∀ t : Fin cfg0.N, ∀ a, win0_4.index t a = 0 := by decide +kernel
/-- So is the block of argument 5. -/
theorem index5 : ∀ t : Fin cfg0.N, ∀ a, win0_5.index t a = 0 := by decide +kernel
/-- So is the block of argument 6. -/
theorem index6 : ∀ t : Fin cfg0.N, ∀ a, win0_6.index t a = 0 := by decide +kernel
/-- So is the block of argument 7. -/
theorem index7 : ∀ t : Fin cfg0.N, ∀ a, win0_7.index t a = 0 := by decide +kernel
/-- So is the block of argument 8. -/
theorem index8 : ∀ t : Fin cfg0.N, ∀ a, win0_8.index t a = 0 := by decide +kernel
/-- So is the block of argument 9. -/
theorem index9 : ∀ t : Fin cfg0.N, ∀ a, win0_9.index t a = 0 := by decide +kernel

/-- So every step reads the whole arrays. -/
theorem iblk1 (c : Dev nD) (t : Fin cfg0.N) : iblk m c 1 t = V m c main_v1 := by
  funext x; unfold iblk; rw [View.read_apply]
  refine congrArg (V m c main_v1) ?_
  exact funext fun a => Fin.ext (at_zero (index1 t a))
/-- The first biases' block is the laid-out array. -/
theorem iblk2 (c : Dev nD) (t : Fin cfg0.N) : iblk m c 2 t = V m c main_v2 := by
  funext x; unfold iblk; rw [View.read_apply]
  refine congrArg (V m c main_v2) ?_
  exact funext fun a => Fin.ext (at_zero (index2 t a))
/-- Input 3's block is argument 3. -/
theorem iblk3 (c : Dev nD) (t : Fin cfg0.N) : iblk m c 3 t = m ((c : Thread nD τ).loc main_arg3) := by
  funext x; unfold iblk; rw [View.read_apply]
  refine (congrFun (V_main_arg3 m c) _).trans (congrArg (m ((c : Thread nD τ).loc main_arg3)) ?_)
  exact funext fun a => Fin.ext (at_zero (index3 t a))
/-- Input 4's block is argument 4. -/
theorem iblk4 (c : Dev nD) (t : Fin cfg0.N) : iblk m c 4 t = m ((c : Thread nD τ).loc main_arg4) := by
  funext x; unfold iblk; rw [View.read_apply]
  refine (congrFun (V_main_arg4 m c) _).trans (congrArg (m ((c : Thread nD τ).loc main_arg4)) ?_)
  exact funext fun a => Fin.ext (at_zero (index4 t a))
/-- Input 5's block is argument 5. -/
theorem iblk5 (c : Dev nD) (t : Fin cfg0.N) : iblk m c 5 t = m ((c : Thread nD τ).loc main_arg5) := by
  funext x; unfold iblk; rw [View.read_apply]
  refine (congrFun (V_main_arg5 m c) _).trans (congrArg (m ((c : Thread nD τ).loc main_arg5)) ?_)
  exact funext fun a => Fin.ext (at_zero (index5 t a))
/-- Input 6's block is argument 6. -/
theorem iblk6 (c : Dev nD) (t : Fin cfg0.N) : iblk m c 6 t = m ((c : Thread nD τ).loc main_arg6) := by
  funext x; unfold iblk; rw [View.read_apply]
  refine (congrFun (V_main_arg6 m c) _).trans (congrArg (m ((c : Thread nD τ).loc main_arg6)) ?_)
  exact funext fun a => Fin.ext (at_zero (index6 t a))
/-- Input 7's block is argument 7. -/
theorem iblk7 (c : Dev nD) (t : Fin cfg0.N) : iblk m c 7 t = m ((c : Thread nD τ).loc main_arg7) := by
  funext x; unfold iblk; rw [View.read_apply]
  refine (congrFun (V_main_arg7 m c) _).trans (congrArg (m ((c : Thread nD τ).loc main_arg7)) ?_)
  exact funext fun a => Fin.ext (at_zero (index7 t a))
/-- Input 8's block is argument 8. -/
theorem iblk8 (c : Dev nD) (t : Fin cfg0.N) : iblk m c 8 t = m ((c : Thread nD τ).loc main_arg8) := by
  funext x; unfold iblk; rw [View.read_apply]
  refine (congrFun (V_main_arg8 m c) _).trans (congrArg (m ((c : Thread nD τ).loc main_arg8)) ?_)
  exact funext fun a => Fin.ext (at_zero (index8 t a))
/-- Input 9's block is argument 9. -/
theorem iblk9 (c : Dev nD) (t : Fin cfg0.N) : iblk m c 9 t = m ((c : Thread nD τ).loc main_arg9) := by
  funext x; unfold iblk; rw [View.read_apply]
  refine (congrFun (V_main_arg9 m c) _).trans (congrArg (m ((c : Thread nD τ).loc main_arg9)) ?_)
  exact funext fun a => Fin.ext (at_zero (index9 t a))

/-- The lines before the region lay the first layer's weights and biases out. -/
theorem V_main_v1 (c : Dev nD) : V m c main_v1 = shapeCast S256x256
    (transpose S256x4x64 [1, 0, 2] (m ((c : Thread nD τ).loc main_arg1)) transposes_S4x256x64_S256x4x64_1_0_2) shapeCasts_S256x4x64_S256x256 := by
  show StableHlo.after (List.flatten [hostOps0]) (fun b => m (c, b)) (Proc.devRef .tc main_v1) = _
  simp only [hostOps0, List.flatten_cons, List.flatten_nil, List.append_nil]
  after_results
  rfl
/-- The host lays the first biases in one row. -/
theorem V_main_v2 (c : Dev nD) : V m c main_v2 = shapeCast S256 (m ((c : Thread nD τ).loc main_arg2)) shapeCasts_S4x64_S256 := by
  show StableHlo.after (List.flatten [hostOps0]) (fun b => m (c, b)) (Proc.devRef .tc main_v2) = _
  simp only [hostOps0, List.flatten_cons, List.flatten_nil, List.append_nil]
  after_results
  rfl

end Cert.KernelIdeal.Vote

end
-- ==== Proof.Final.lean ====
/-
  What the two output arrays and the returned constant hold after the kernel's run.
-/
module

public import proofs.«01_k».proof.Proof.Arrays
public import Idealize.ShloMosaic.Lib.Pipeline.Value

@[expose] public section

set_option maxRecDepth 16384

noncomputable section

namespace Cert.KernelIdeal.Vote

open Cert.KernelIdeal Cert.KernelIdeal.Gen Cert.Votes
open Idealize.ShloMosaic Idealize.ShloMosaic.TcCoe Idealize.SL.Sem
open Idealize.ShloMosaic.Pipeline (Dat)

/-- The first layer's weights, laid out: column `64 v + k` is voter `v`'s hidden unit `k`. -/
theorem laid_weights (w : Vec Ideal S4x256x64 .f32) (v : Fin 4) (k : Fin 64) (d i : Fin 256) (e : i.val = 64 * v.val + k.val) :
    (shapeCast S256x256 (transpose S256x4x64 [1, 0, 2] w transposes_S4x256x64_S256x4x64_1_0_2) shapeCasts_S256x4x64_S256x256 : Vec Ideal S256x256 .f32)
      (ix2 d i) = w (ix3 v d k) := by
  pointwise []
  congr 2 <;> apply Fin.ext <;> simp only [] <;> have := k.isLt <;> omega

/-- The first layer's biases, laid out the same way. -/
theorem laid_biases (w : Vec Ideal S4x64 .f32) (v : Fin 4) (k : Fin 64) (i : Fin 256) (e : i.val = 64 * v.val + k.val) :
    (shapeCast S256 w shapeCasts_S4x64_S256 : Vec Ideal S256 .f32) (ix1 i) = w (ix2 v k) := by
  pointwise []
  congr 2 <;> apply Fin.ext <;> simp only [] <;> have := k.isLt <;> omega

variable (m : (ℓ : Loc nD τ sig) → Buf (Elt Ideal) ℓ)

/-- A device's logits: those of its argument arrays. -/
def scores (c : Dev nD) : Fin 4096 → Fin 4 → Fin 4096 → EReal :=
  logit (m ((c : Thread nD τ).loc main_arg0)) (m ((c : Thread nD τ).loc main_arg1)) (m ((c : Thread nD τ).loc main_arg2))
    (m ((c : Thread nD τ).loc main_arg3)) (m ((c : Thread nD τ).loc main_arg4))

/-- The k-hot array of the lists `p`. -/
def hotArr (p : Fin 4096 → Fin 4 → Fin 8 → Fin 4096) : Vec Ideal S4096x4096 .f32 := fun i => hot (p (i 0)) (i 1)

/-- The decoded array of the lists `p`. -/
def decArr (p : Fin 4096 → Fin 4 → Fin 8 → Fin 4096) (c : Dev nD) : Vec Ideal S4096x256 .f32 := fun i =>
  decoded (hot (p (i 0))) (m ((c : Thread nD τ).loc main_arg5)) (m ((c : Thread nD τ).loc main_arg6))
    (m ((c : Thread nD τ).loc main_arg7)) (m ((c : Thread nD τ).loc main_arg8)) (m ((c : Thread nD τ).loc main_arg9)) (i 1)

/-- The array row a block row is at a step. -/
def row (t : Fin cfg0.N) (r : Fin 256) : Fin 4096 :=
  ⟨256 * t.val + r.val, by have h : t.val < 16 := t.isLt; have := r.isLt; omega⟩

section
variable (c : Dev nD) (p : Fin 4096 → Fin 4 → Fin 8 → Fin 4096) (hp : ∀ b v, Top (scores m c b v) (p b v))
include hp

/-- A step's k-hot block. -/
theorem step_khot (t : Fin cfg0.N) (r : Fin 256) (q : Fin 4096) :
    outK (iblk m c 0 t) (iblk m c 1 t) (iblk m c 2 t) (iblk m c 3 t) (iblk m c 4 t) (ix2 r q) = hot (p (row t r)) q := by
  rw [iblk1, iblk2, iblk3, iblk4, V_main_v1, V_main_v2]
  exact outK_apply _ _ _ _ _ (row t) (fun r d => iblk0_apply m c t r d (row t r) rfl)
    (fun v k d i e => laid_weights _ v k d i e) (fun v k i e => laid_biases _ v k i e) p hp r q

/-- A step's decoded block. -/
theorem step_dec (t : Fin cfg0.N) (r j : Fin 256) :
    outR (iblk m c 0 t) (iblk m c 1 t) (iblk m c 2 t) (iblk m c 3 t) (iblk m c 4 t) (iblk m c 5 t) (iblk m c 6 t) (iblk m c 7 t)
      (iblk m c 8 t) (iblk m c 9 t) (ix2 r j) = decArr m p c (ix2 (row t r) j) := by
  unfold outR
  rw [dec_apply, funext fun q => step_khot m c p hp t r q, iblk5, iblk6, iblk7, iblk8, iblk9]
  rfl

end

/-- The outputs' blocks are placed by rows, at every step. -/
theorem index10 : ∀ t : Fin cfg0.N, win0_10.index t 0 = t.val ∧ win0_10.index t 1 = 0 := by decide +kernel
/-- The k-hot blocks too. -/
theorem index11 : ∀ t : Fin cfg0.N, win0_11.index t 0 = t.val ∧ win0_11.index t 1 = 0 := by decide +kernel

/-- A two-direction index is the pair of its coordinates. -/
theorem eq_ix2 {A B : ℕ} (i : (⟨2, ![A, B]⟩ : Shape).Idx) : i = ix2 (i 0) (i 1) := by
  funext a
  match a with
  | ⟨0, _⟩ => rfl
  | ⟨1, _⟩ => rfl

/-- A step writes back its rows of the k-hot array. -/
theorem flushed11 (c : Dev nD) (p : Fin 4096 → Fin 4 → Fin 8 → Fin 4096) (hp : ∀ b v, Top (scores m c b v) (p b v)) (t : Fin cfg0.N) :
    (dats m 0 c).flushed 11 t = (win0_11.blk t).view.read (Elt Ideal) (hotArr p) := by
  show (cfg0.win 11).cut (grid0.coords t) ((dats m 0 c).after 11 t) = _
  rw [after0_11]
  refine funext fun (i : S256x4096.Idx) => ?_
  rw [View.read_apply]
  rw [eq_ix2 i]
  refine (step_khot m c p hp t (i 0) (i 1)).trans (congrArg (hotArr p) (?_ : ix2 (row t (i 0)) (i 1) = _))
  obtain ⟨h0, h1⟩ := index11 t
  funext a
  apply Fin.ext
  match a with
  | ⟨0, _⟩ =>
    show 256 * t.val + (i 0).val = win0_11.index t 0 * 256 + 1 * (i 0).val
    rw [h0]; omega
  | ⟨1, _⟩ =>
    show (i 1).val = win0_11.index t 1 * 4096 + 1 * (i 1).val
    rw [h1]; omega

/-- A step writes back its rows of the decoded array. -/
theorem flushed10 (c : Dev nD) (p : Fin 4096 → Fin 4 → Fin 8 → Fin 4096) (hp : ∀ b v, Top (scores m c b v) (p b v)) (t : Fin cfg0.N) :
    (dats m 0 c).flushed 10 t = (win0_10.blk t).view.read (Elt Ideal) (decArr m p c) := by
  show (cfg0.win 10).cut (grid0.coords t) ((dats m 0 c).after 10 t) = _
  rw [after0_10]
  refine funext fun (i : S256x256.Idx) => ?_
  rw [View.read_apply]
  rw [eq_ix2 i]
  refine (step_dec m c p hp t (i 0) (i 1)).trans (congrArg (decArr m p c) (?_ : ix2 (row t (i 0)) (i 1) = _))
  obtain ⟨h0, h1⟩ := index10 t
  funext a
  apply Fin.ext
  match a with
  | ⟨0, _⟩ =>
    show 256 * t.val + (i 0).val = win0_10.index t 0 * 256 + 1 * (i 0).val
    rw [h0]; omega
  | ⟨1, _⟩ =>
    show (i 1).val = win0_10.index t 1 * 256 + 1 * (i 1).val
    rw [h1]; omega

/-- The step that writes an array row. -/
def stepOf (b : Fin 4096) : Fin cfg0.N := ⟨b.val / 256, by show b.val / 256 < 16; have := b.isLt; omega⟩

/-- The k-hot blocks cover their array. -/
theorem cover11 (i : S4096x4096.Idx) : ∃ t : Fin cfg0.N, (cfg0.win 11).flush t = true ∧ i ∈ ((cfg0.win 11).blk t).view.set := by
  refine ⟨stepOf (i 0), flush0_11 _, ?_⟩
  show i ∈ ((View.whole main_v3_1).slice (win0_11.rect (stepOf (i 0)))).set
  rw [View.set_slice_whole, Rect.mem_set_unit]
  obtain ⟨h0, h1⟩ := index11 (stepOf (i 0))
  have e : (stepOf (i 0)).val = (i 0).val / 256 := rfl
  have hi : (i 0).val < 4096 := (i 0).isLt
  have hj : (i 1).val < 4096 := (i 1).isLt
  intro a
  match a with
  | ⟨0, _⟩ =>
    show win0_11.index (stepOf (i 0)) 0 * 256 ≤ (i 0).val ∧ (i 0).val < win0_11.index (stepOf (i 0)) 0 * 256 + 256
    rw [h0]; omega
  | ⟨1, _⟩ =>
    show win0_11.index (stepOf (i 0)) 1 * 4096 ≤ (i 1).val ∧ (i 1).val < win0_11.index (stepOf (i 0)) 1 * 4096 + 4096
    rw [h1]; omega

/-- The decoded blocks cover theirs. -/
theorem cover10 (i : S4096x256.Idx) : ∃ t : Fin cfg0.N, (cfg0.win 10).flush t = true ∧ i ∈ ((cfg0.win 10).blk t).view.set := by
  refine ⟨stepOf (i 0), flush0_10 _, ?_⟩
  show i ∈ ((View.whole main_v3_0).slice (win0_10.rect (stepOf (i 0)))).set
  rw [View.set_slice_whole, Rect.mem_set_unit]
  obtain ⟨h0, h1⟩ := index10 (stepOf (i 0))
  have e : (stepOf (i 0)).val = (i 0).val / 256 := rfl
  have hi : (i 0).val < 4096 := (i 0).isLt
  have hj : (i 1).val < 256 := (i 1).isLt
  intro a
  match a with
  | ⟨0, _⟩ =>
    show win0_10.index (stepOf (i 0)) 0 * 256 ≤ (i 0).val ∧ (i 0).val < win0_10.index (stepOf (i 0)) 0 * 256 + 256
    rw [h0]; omega
  | ⟨1, _⟩ =>
    show win0_10.index (stepOf (i 0)) 1 * 256 ≤ (i 1).val ∧ (i 1).val < win0_10.index (stepOf (i 0)) 1 * 256 + 256
    rw [h1]; omega

/-- The line after the region writes the returned constant. -/
theorem W_main_cst (c : Dev nD) : Pipeline.afterTail₀ cfgs (dats m) 0 (V0 m) [hostOps1] c main_cst = constant (F := Ideal) S_ .f32 0x00000000#32 := by
  unfold Pipeline.afterTail₀
  simp only [hostOps1, List.flatten_cons, List.flatten_nil, List.append_nil]
  after_results

variable (ρ : Dev nD → PrngReg)

/-- The kernel's run: the decoded array, the k-hot array, the constant. -/
theorem run (p : Dev nD → Fin 4096 → Fin 4 → Fin 8 → Fin 4096) (hp : ∀ c b v, Top (scores m c b v) (p c b v)) :
    θ_run defs (onTc (τ := τ) (main (F := Ideal))) ⟨m, fun _ => 0, ρ⟩ (fun r => ∀ c : Dev nD,
      r.2.mem ((c.tc : Thread nD τ).loc main_v3_0) = decArr m (p c) c
      ∧ r.2.mem ((c.tc : Thread nD τ).loc main_v3_1) = hotArr (p c)
      ∧ r.2.mem ((c.tc : Thread nD τ).loc main_cst) = constant (F := Ideal) S_ .f32 0x00000000#32) :=
  (θ_run defs _ _).mono (fun r h c => ⟨
    ((h c).1 10).trans ((dats m 0 c).arrAt_eq_of_cover 10 (decArr m (p c) c) (fun t _ => flushed10 m c (p c) (hp c) t) cover10),
    ((h c).1 11).trans ((dats m 0 c).arrAt_eq_of_cover 11 (hotArr (p c)) (fun t _ => flushed11 m c (p c) (hp c) t) cover11),
    ((h c).2 main_cst (Pipeline.mem_restRefs_of main_cst (by decide) (by decide))).trans (W_main_cst m c)⟩) (run_main m ρ)

end Cert.KernelIdeal.Vote

end
-- ==== Proof.Sorted.lean ====
/-
  The largest entries of a row as the library's top-k lists them, and ones written at listed places.
-/
module

public import proofs.«01_k».proof.Proof.Spec
public import Idealize.ShloMosaic.Lib.SortFacts
public import Idealize.ShloMosaic.Lib.Pointwise
public import Idealize.ShloMosaic.Lib.Routing.OpsPair

@[expose] public section

set_option maxRecDepth 16384

noncomputable section

namespace Cert.Votes

open Idealize.ShloMosaic

/-- "`a` comes before `a'`" when the row is sorted with the largest entries first. -/
def before {n : ℕ} (f : Fin n → EReal) (a a' : Fin n) : Bool :=
  FloatOps.cmpfTotal (F := Ideal) (φ := .f32) .gt (f a) (f a') == 1#1

/-- It compares the entries. -/
theorem before_iff {n : ℕ} (f : Fin n → EReal) (a a' : Fin n) : before f a a' = true ↔ f a' < f a := by
  unfold before
  rw [Ideal.cmpfTotal_def]
  show (Ideal.cmp .ogt (f a) (f a') == 1#1) = true ↔ _
  rw [beq_iff_eq]
  exact Ideal.cmp_ogt_eq_one _ _

/-- It holds in one direction only, and its failure is transitive. -/
theorem before_false {n : ℕ} (f : Fin n → EReal) (a a' : Fin n) : before f a a' = false ↔ f a ≤ f a' := by
  rw [← not_lt, ← before_iff, Bool.not_eq_true]

/-- The sorted row never rises. -/
theorem sorted_le {n : ℕ} (f : Fin n → EReal) {i j : Fin n} (h : i < j) : f (sortedFrom (before f) j) ≤ f (sortedFrom (before f) i) :=
  (before_false f _ _).mp (sortedFrom_noInversion (before f) (before f)
    (fun a b h => (before_false f b a).mpr ((before_iff f a b).mp h).le) (fun _ _ h => h)
    (fun a b c h h' => (before_false f a c).mpr (((before_false f a b).mp h).trans ((before_false f b c).mp h'))) i j h)

/-- The place the `k`th largest entry comes from. -/
def place (f : Fin 4096 → EReal) (k : ℕ) (hk : k < 4096 := by omega) : Fin 4096 := sortedFrom (before f) ⟨k, hk⟩

/-- When the nine largest entries fall strictly, the first eight places are the row's top eight. -/
theorem top_place (f : Fin 4096 → EReal)
    (h : ∀ k : Fin 8, f (place f (k.val + 1)) < f (place f k.val)) : Top f (fun k => place f k.val) where
  strict j k hjk := by
    have key : ∀ n (hn : n < 8), j.val < n → f (place f n) < f (place f j.val) := by
      intro n
      induction n with
      | zero => intro _ h0; omega
      | succ n ih =>
        intro hn hj
        rcases Nat.lt_or_ge j.val n with h' | h'
        · exact (h ⟨n, by omega⟩).trans (ih (by omega) h')
        · have e : j.val = n := by omega
          have := h j
          simp only [e] at this ⊢
          exact this
    exact key k.val k.isLt hjk
  rest i := by
    obtain ⟨j, rfl⟩ := sortedFrom_surjective (before f) i
    rcases Nat.lt_or_ge j.val 8 with hj | hj
    · exact .inl ⟨⟨j.val, hj⟩, rfl⟩
    · refine .inr (lt_of_le_of_lt ?_ (h 7))
      rcases Nat.eq_or_lt_of_le hj with e | e
      · exact le_of_eq (congrArg f (congrArg (sortedFrom (before f)) (Fin.ext e.symm)))
      · exact sorted_le f (i := ⟨8, by omega⟩) (by rw [Fin.lt_def]; exact e)

section

variable (L : (⟨2, ![16384, 4096]⟩ : Shape).Idx → EReal)

/-- A row of a matrix. -/
def rowOf (i : Fin 16384) : Fin 4096 → EReal := fun q => L (ix2 i q)

/-- The leading columns of a matrix, read at an index. -/
theorem lead_apply {α : Type} {N n : ℕ} (x : (⟨2, ![16384, N]⟩ : Shape).Idx → α)
    (h : (⟨2, ![16384, N]⟩ : Shape).Slices (fun _ => 0) ⟨2, ![16384, n]⟩) (i : Fin 16384) (k : Fin n) (j : Fin N) (e : j.val = k.val) :
    extractStridedSlice ⟨2, ![16384, n]⟩ (fun _ => 0) x h (ix2 i k) = x (ix2 i j) := by
  rw [Pointwise.extractStridedSlice_apply]
  refine congrArg x (funext fun a => Fin.ext ?_)
  match a with
  | ⟨0, _⟩ => exact Nat.zero_add _
  | ⟨1, _⟩ => exact (Nat.zero_add _).trans e.symm

/-- A row sorted with a companion, read at an index. -/
theorem sort2_apply {N : ℕ} {β : Type} (x : (⟨2, ![16384, N]⟩ : Shape).Idx → EReal) (y : (⟨2, ![16384, N]⟩ : Shape).Idx → β)
    (i : Fin 16384) (j : Fin N) :
    (Host.sort2 ⟨2, ![16384, N]⟩ 1 (fun l r => FloatOps.cmpfTotal (F := Ideal) (φ := .f32) .gt l.1 r.1) x y).1 (ix2 i j)
        = x (ix2 i (sortedFrom (before fun q => x (ix2 i q)) j))
      ∧ (Host.sort2 ⟨2, ![16384, N]⟩ 1 (fun l r => FloatOps.cmpfTotal (F := Ideal) (φ := .f32) .gt l.1 r.1) x y).2 (ix2 i j)
        = y (ix2 i (sortedFrom (before fun q => x (ix2 i q)) j)) := by
  have e : ∀ (hd : 1 < (⟨2, ![16384, N]⟩ : Shape).rank) (q : Fin N), (ix2 i j : (⟨2, ![16384, N]⟩ : Shape).Idx).along ⟨1, hd⟩ q = ix2 i q := by
    intro hd q
    funext a
    match a with
    | ⟨0, _⟩ => rfl
    | ⟨1, _⟩ => rfl
  have e' : ∀ hd : 1 < (⟨2, ![16384, N]⟩ : Shape).rank,
      (fun a a' : Fin N => FloatOps.cmpfTotal (F := Ideal) (φ := .f32) .gt (x ((ix2 i j : (⟨2, ![16384, N]⟩ : Shape).Idx).along ⟨1, hd⟩ a))
        (x ((ix2 i j : (⟨2, ![16384, N]⟩ : Shape).Idx).along ⟨1, hd⟩ a')) == 1#1) = before fun q => x (ix2 i q) := by
    intro hd
    funext a a'
    rw [e, e]
    rfl
  unfold Host.sort2
  rw [dif_pos (show 1 < (⟨2, ![16384, N]⟩ : Shape).rank from Nat.one_lt_two)]
  exact ⟨congrArg x ((e _ _).trans (congrArg (ix2 i) (congrFun (congrArg sortedFrom (e' _)) j))),
    congrArg y ((e _ _).trans (congrArg (ix2 i) (congrFun (congrArg sortedFrom (e' _)) j)))⟩

/-- The values top-k lists. -/
theorem topK_value {n : ℕ} (hn : n ≤ 4096) (h : (⟨2, ![16384, 4096]⟩ : Shape).Slices (fun _ => 0) ⟨2, ![16384, n]⟩)
    (i : Fin 16384) (k : Fin n) :
    (Host.topK ⟨2, ![16384, n]⟩ 1 (FloatOps.cmpfTotal (F := Ideal) (φ := .f32) .gt) L h).1 (ix2 i k)
      = rowOf L i (place (rowOf L i) k.val (lt_of_lt_of_le k.isLt hn)) := by
  unfold Host.topK
  simp only []
  exact (lead_apply _ h i k ⟨k.val, lt_of_lt_of_le k.isLt hn⟩ rfl).trans (sort2_apply L _ i _).1

/-- The places top-k lists, as words. -/
theorem topK_index {n : ℕ} (hn : n ≤ 4096) (h : (⟨2, ![16384, 4096]⟩ : Shape).Slices (fun _ => 0) ⟨2, ![16384, n]⟩)
    (i : Fin 16384) (k : Fin n) :
    (Host.topK ⟨2, ![16384, n]⟩ 1 (FloatOps.cmpfTotal (F := Ideal) (φ := .f32) .gt) L h).2 (ix2 i k)
      = BitVec.ofNat 32 (place (rowOf L i) k.val (lt_of_lt_of_le k.isLt hn)).val := by
  unfold Host.topK
  simp only []
  refine (lead_apply _ h i k ⟨k.val, lt_of_lt_of_le k.isLt hn⟩ rfl).trans ((sort2_apply L _ i _).2.trans ?_)
  rw [dif_pos (show 1 < (⟨2, ![16384, 4096]⟩ : Shape).rank from Nat.one_lt_two)]
  rfl

end

/-- Ones written over zeros: 1 exactly where some update lands. -/
theorem set_ones {s si u : Shape} {w : ℕ} (d : ScatterDims s si u) (x : s.Idx → EReal) (idx : IVec si w) (upd : u.Idx → EReal)
    (i : s.Idx) (hx : x i = 0) (hu : ∀ j, upd j = 1) :
    Host.scatter d (fun _ b => b) x idx upd i = ind (∃ j, d.resultIdx? j idx = some i) := by
  rw [Routing.scatter_at, hx]
  have key : ∀ (l : List (Fin u.numel)) (a : EReal), l.foldl (fun a n => if d.resultIdx? (u.rowMajor.symm n) idx = some i then upd (u.rowMajor.symm n) else a) a
      = if (∃ n ∈ l, d.resultIdx? (u.rowMajor.symm n) idx = some i) then 1 else a := by
    classical
    intro l
    induction l with
    | nil => intro a; simp
    | cons n l ih =>
      intro a
      rw [List.foldl_cons, ih]
      by_cases h : d.resultIdx? (u.rowMajor.symm n) idx = some i
      · simp [h, hu]
      · simp [h]
  rw [key]
  by_cases h : ∃ j, d.resultIdx? j idx = some i
  · rw [ind_pos h, if_pos]
    obtain ⟨j, hj⟩ := h
    exact ⟨u.rowMajor j, List.mem_finRange _, by rw [Equiv.symm_apply_apply]; exact hj⟩
  · rw [ind_neg h, if_neg]
    rintro ⟨n, -, hn⟩
    exact h ⟨_, hn⟩

end Cert.Votes

end
-- ==== Proof.Reference.lean ====
/-
  What the reference computes, entry by entry, from the arrays: its logits, its marks, its k-hot array, its decoded array.
-/
module

public import proofs.«01_k».proof.Proof.Sorted
public import proofs.«01_k».proof.Proof.Gen.ReferenceIdeal.Run
public import proofs.«01_k».proof.Proof.Gen.Pre_top_votes_strict
public import Idealize.ShloMosaic.Lib.IdealHost

@[expose] public section

set_option maxRecDepth 16384

noncomputable section

namespace Cert.ReferenceIdeal.Votes

open Cert.ReferenceIdeal Cert.ReferenceIdeal.Gen Cert.Votes
open Idealize.ShloMosaic Idealize.ShloMosaic.TcCoe Idealize.SL.Sem

/-- The reference's logits, a row for every input row and voter. -/
def refLogits (x : FVec Ideal S4096x256 .f32) (w1 : FVec Ideal S4x256x64 .f32) (b1 : FVec Ideal S4x64 .f32) (w2 : FVec Ideal S4x64x4096 .f32)
    (b2 : FVec Ideal S4x4096 .f32) : FVec Ideal S16384x4096 .f32 :=
  shapeCast S16384x4096 (addf (transpose S4096x4x4096 [2, 0, 1] (Host.dotGeneral dot_S4x64x4096_S4096x4x64_S4x4096x4096_1_2_2_0_0_1 none w2 (maximumf
    (addf (Host.dotGeneral dot_S4096x256_S4x256x64_S4096x4x64_1_1_0_02_n_n none x w1) (broadcastInDim S4096x4x64 ![0, 1, 2]
    bcast_S1x4x64_S4096x4x64_0_1_2 (broadcastInDim S1x4x64 ![1, 2] bcast_S4x64_S1x4x64_1_2 b1))) (broadcastInDim S4096x4x64 ![] bcast_S_S4096x4x64
    (constant S_ .f32 0x00000000#32)))) transposes_S4x4096x4096_S4096x4x4096_2_0_1) (broadcastInDim S4096x4x4096 ![0, 1, 2]
    bcast_S1x4x4096_S4096x4x4096_0_1_2 (broadcastInDim S1x4x4096 ![1, 2] bcast_S4x4096_S1x4x4096_1_2 b2))) shapeCasts_S4096x4x4096_S16384x4096

/-- The words of the places it marks: a row's number, and the number of one of the row's places `T`. -/
def refIdx (T : IVec S16384x8 32) : IVec S16384x8x2 32 :=
  concatenate S16384x8x2 2 [⟨S16384x8x1, (broadcastInDim S16384x8x1 ![0, 1] bcast_S16384x8_S16384x8x1_0_1 (broadcastInDim S16384x8 ![0, 1]
    bcast_S16384x1_S16384x8_0_1 (select (cmpi .slt (broadcastInDim S16384x1 ![0] bcast_S16384_S16384x1_0 (iotaInDim S16384 32 0)) (broadcastInDim
    S16384x1 ![] bcast_S_S16384x1 (constantI S_ 32 0#32))) (addi (broadcastInDim S16384x1 ![0] bcast_S16384_S16384x1_0 (iotaInDim S16384 32 0))
    (broadcastInDim S16384x1 ![] bcast_S_S16384x1 (constantI S_ 32 16384#32))) (broadcastInDim S16384x1 ![0] bcast_S16384_S16384x1_0 (iotaInDim S16384
    32 0)))))⟩, ⟨S16384x8x1, (broadcastInDim S16384x8x1 ![0, 1] bcast_S16384x8_S16384x8x1_0_1 (select (cmpi .slt T (broadcastInDim S16384x8 ![]
    bcast_S_S16384x8 (constantI S_ 32 0#32))) (addi T (broadcastInDim S16384x8 ![] bcast_S_S16384x8 (constantI S_ 32 4096#32))) T))⟩]
    concatenates_S16384x8x1_S16384x8x1_S16384x8x2_d2

/-- Its marks: a one at each of a row's eight largest places. -/
def refMarks (L : FVec Ideal S16384x4096 .f32) : FVec Ideal S16384x4096 .f32 :=
  Host.scatter scatter_S16384x4096_S16384x8x2_S16384x8_n_01_01_2 (fun _ b => b) (broadcastInDim S16384x4096 ![] bcast_S_S16384x4096 (constant S_ .f32
    0x00000000#32)) (refIdx ((Host.topK S16384x8 1 (FloatOps.cmpfTotal .gt) L sliceFits_S16384x4096_S16384x8).2)) (broadcastInDim S16384x8 ![]
    bcast_S_S16384x8 (constant S_ .f32 0x3F800000#32))

/-- Its k-hot array: the voters' marks added and cut off at one. -/
def refHot (M : FVec Ideal S16384x4096 .f32) : FVec Ideal S4096x4096 .f32 :=
  minimumf (broadcastInDim S4096x4096 ![] bcast_S_S4096x4096 (id (constant S_ .f32 0x3F800000#32))) (maximumf (broadcastInDim S4096x4096 ![]
    bcast_S_S4096x4096 (id (constant S_ .f32 0x00000000#32))) (Host.reduceAdd (shapeCast S4096x4x4096 M shapeCasts_S16384x4096_S4096x4x4096) (constant
    S_ .f32 0x00000000#32) reducesTo_S4096x4x4096_S4096x4096_d1 h_S_))

/-- Its decoded array. -/
def refDec (K : FVec Ideal S4096x4096 .f32) (cb : FVec Ideal S4096x64 .f32) (d1 : FVec Ideal S64x64 .f32) (e1 : FVec Ideal S64 .f32)
    (d2 : FVec Ideal S64x256 .f32) (e2 : FVec Ideal S256 .f32) : FVec Ideal S4096x256 .f32 :=
  addf (Host.dotGeneral dot_S4096x64_S64x256_S4096x256_1_0_0_1_n_n none (maximumf (addf (Host.dotGeneral dot_S4096x64_S64x64_S4096x64_1_0_0_1_n_n none
    (Host.dotGeneral dot_S4096x4096_S4096x64_S4096x64_1_0_0_1_n_n none K cb) d1) (broadcastInDim S4096x64 ![0, 1] bcast_S1x64_S4096x64_0_1
    (broadcastInDim S1x64 ![1] bcast_S64_S1x64_1 e1))) (broadcastInDim S4096x64 ![] bcast_S_S4096x64 (constant S_ .f32 0x00000000#32))) d2)
    (broadcastInDim S4096x256 ![0, 1] bcast_S1x256_S4096x256_0_1 (broadcastInDim S1x256 ![1] bcast_S256_S1x256_1 e2))

/-- The row an input row and a voter have among the logits. -/
def voteRow (b : Fin 4096) (v : Fin 4) : Fin 16384 := ⟨4 * b.val + v.val, by have := b.isLt; have := v.isLt; omega⟩

/-- The reference's logits are the logits. -/
theorem refLogits_row (x : FVec Ideal S4096x256 .f32) (w1 : FVec Ideal S4x256x64 .f32) (b1 : FVec Ideal S4x64 .f32)
    (w2 : FVec Ideal S4x64x4096 .f32) (b2 : FVec Ideal S4x4096 .f32) (b : Fin 4096) (v : Fin 4) :
    rowOf (refLogits x w1 b1 w2 b2) (voteRow b v) = logit x w1 b1 w2 b2 b v := by
  funext q
  unfold rowOf
  pointwise [refLogits]
  have e1 : (⟨(voteRow b v).val / 4, by have := (voteRow b v).isLt; omega⟩ : Fin 4096) = b :=
    Fin.ext (show (4 * b.val + v.val) / 4 = b.val by have := v.isLt; omega)
  have e2 : (⟨(voteRow b v).val % 4, by omega⟩ : Fin 4) = v :=
    Fin.ext (show (4 * b.val + v.val) % 4 = v.val by have := v.isLt; omega)
  have key : ∀ (b' : Fin 4096) (v' : Fin 4), b' = b → v' = v →
      (∑ k : Fin 64, w2 (ix3 v' k q) * max ((∑ d : Fin 256, x (ix2 b' d) * w1 (ix3 v' d k)) + b1 (ix2 v' k)) 0) + b2 (ix2 v' q)
        = logit x w1 b1 w2 b2 b v q := by
    rintro _ _ rfl rfl
    unfold logit
    exact congrArg (· + _) (Finset.sum_congr rfl fun k _ => mul_comm _ _)
  exact key _ _ e1 e2

/-- A small word is not negative, so it is left as it is where a negative one would count from the end. -/
theorem kept (n : ℕ) (hn : n < 16384) (a : BitVec 32) : Scalar.select (IntOp.cmpi .slt (BitVec.ofNat 32 n) 0#32) a (BitVec.ofNat 32 n) = BitVec.ofNat 32 n :=
  Routing.wrap_of_lt _ _ (by rw [BitVec.toNat_ofNat]; omega)

/-- A small word reads as its number. -/
theorem read_small (n : ℕ) (hn : n < 16384) : (BitVec.ofNat 32 n).toInt = (n : ℤ) := by
  rw [BitVec.toInt_eq_toNat_of_lt (by rw [BitVec.toNat_ofNat]; omega), BitVec.toNat_ofNat, Nat.mod_eq_of_lt (by omega)]

/-- The first word is the row's number. -/
theorem refIdx_row (T : IVec S16384x8 32) (i : Fin 16384) (k : Fin 8) : refIdx T (ix3 i k 0) = BitVec.ofNat 32 i.val := by
  pointwise [refIdx]
  exact kept _ i.isLt _

/-- The second is the place's. -/
theorem refIdx_place (T : IVec S16384x8 32) (i : Fin 16384) (k : Fin 8) (q : Fin 4096) (h : T (ix2 i k) = BitVec.ofNat 32 q.val) :
    refIdx T (ix3 i k 1) = BitVec.ofNat 32 q.val := by
  pointwise [refIdx]
  rw [h]
  exact kept _ (lt_trans q.isLt (by norm_num)) _

/-- A mark stands where a row's list has the place. -/
theorem refMarks_apply (L : FVec Ideal S16384x4096 .f32) (i : Fin 16384) (q : Fin 4096) :
    refMarks L (ix2 i q) = ind (∃ k : Fin 8, place (rowOf L i) k.val = q) := by
  unfold refMarks
  rw [set_ones _ _ _ _ _ (by pointwise []) (fun j => by pointwise [])]
  refine congrArg ind (propext ?_)
  have key : ∀ (a : Fin 16384) (k : Fin 8),
      scatter_S16384x4096_S16384x8x2_S16384x8_n_01_01_2.resultIdx? (ix2 a k)
        (refIdx (Host.topK S16384x8 1 (FloatOps.cmpfTotal .gt) L sliceFits_S16384x4096_S16384x8).2) = some (ix2 i q)
        ↔ a = i ∧ place (rowOf L a) k.val = q := by
    intro a k
    refine (Routing.scatter_lands2 _ rfl rfl rfl _ a k i q).trans ?_
    have h0 := refIdx_row (Host.topK S16384x8 1 (FloatOps.cmpfTotal .gt) L sliceFits_S16384x4096_S16384x8).2 a k
    have h1 := refIdx_place _ a k _ (topK_index L (n := 8) (by omega) sliceFits_S16384x4096_S16384x8 a k)
    refine (and_congr (Eq.congr_left ((congrArg BitVec.toInt h0).trans (read_small _ a.isLt)))
      (Eq.congr_left ((congrArg BitVec.toInt h1).trans (read_small _ (lt_trans (Fin.isLt _) (by norm_num)))))).trans ?_
    rw [Nat.cast_inj, Nat.cast_inj, Fin.val_inj, Fin.val_inj]
  constructor
  · rintro ⟨j, hj⟩
    rw [show j = ix2 (j 0) (j 1) from funext fun a => by match a with | ⟨0, _⟩ => rfl | ⟨1, _⟩ => rfl] at hj
    obtain ⟨e, h⟩ := (key (j 0) (j 1)).mp hj
    exact ⟨j 1, by rw [← h, e]⟩
  · rintro ⟨k, hk⟩
    exact ⟨ix2 i k, (key i k).mpr ⟨rfl, hk⟩⟩

/-- A mark is not negative. -/
theorem ind_nonneg (P : Prop) : 0 ≤ ind P := by
  obtain ⟨n, e, -⟩ := ind_nat P
  rw [e]
  exact_mod_cast Nat.zero_le n

/-- The k-hot array of an input row's voters' marks. -/
theorem refHot_apply (M : FVec Ideal S16384x4096 .f32) (b q : Fin 4096) (P : Fin 4 → Prop)
    (hM : ∀ v, M (ix2 (voteRow b v) q) = ind (P v)) : refHot M (ix2 b q) = ind (any P) := by
  pointwise [refHot]
  have e : ∀ v : Fin 4, (⟨b.val * 4 + v.val, by have := b.isLt; have := v.isLt; omega⟩ : Fin 16384) = voteRow b v :=
    fun v => Fin.ext (by show b.val * 4 + v.val = 4 * b.val + v.val; omega)
  simp only [e, hM]
  rw [Fin.sum_univ_four]
  show min (Ideal.ofBits .f32 0x3F800000#32) (max (Ideal.ofBits .f32 0x00000000#32) _) = _
  rw [Ideal.ofBits_zero_f32, Ideal.ofBits_one_f32, max_eq_right (add_nonneg (add_nonneg (add_nonneg (ind_nonneg _) (ind_nonneg _)) (ind_nonneg _)) (ind_nonneg _)),
    min_comm, cut_marks]

/-- The decoded array, entry by entry. -/
theorem refDec_apply (K : FVec Ideal S4096x4096 .f32) (cb : FVec Ideal S4096x64 .f32) (d1 : FVec Ideal S64x64 .f32) (e1 : FVec Ideal S64 .f32)
    (d2 : FVec Ideal S64x256 .f32) (e2 : FVec Ideal S256 .f32) (b : Fin 4096) (j : Fin 256) :
    refDec K cb d1 e1 d2 e2 (ix2 b j) = decoded (fun q => K (ix2 b q)) cb d1 e1 d2 e2 j := by
  unfold decoded
  pointwise [refDec]

section

variable (x : FVec Ideal S4096x256 .f32) (w1 : FVec Ideal S4x256x64 .f32) (b1 : FVec Ideal S4x64 .f32) (w2 : FVec Ideal S4x64x4096 .f32)
  (b2 : FVec Ideal S4x4096 .f32) (cb : FVec Ideal S4096x64 .f32) (d1 : FVec Ideal S64x64 .f32) (e1 : FVec Ideal S64 .f32)
  (d2 : FVec Ideal S64x256 .f32) (e2 : FVec Ideal S256 .f32)

/-- The places of a row's eight largest logits, voter by voter. -/
def lists (b : Fin 4096) (v : Fin 4) (k : Fin 8) : Fin 4096 := place (logit x w1 b1 w2 b2 b v) k.val

/-- The k-hot array is the lists'. -/
theorem refHot_lists (b q : Fin 4096) :
    refHot (refMarks (refLogits x w1 b1 w2 b2)) (ix2 b q) = hot (lists x w1 b1 w2 b2 b) q :=
  refHot_apply _ b q (fun v => ∃ k, lists x w1 b1 w2 b2 b v k = q) fun v => by
    rw [refMarks_apply, refLogits_row]
    rfl

/-- Where the precondition's program gives all ones, the lists are the top eight of their rows. -/
theorem top_lists (h : Cert.Pre_top_votes_strict.fn (F := Ideal) x w1 b1 w2 b2 cb d1 e1 d2 e2 = fun _ => 1#1) (b : Fin 4096) (v : Fin 4) :
    Top (logit x w1 b1 w2 b2 b v) (lists x w1 b1 w2 b2 b v) := by
  refine top_place _ fun k => ?_
  have h' : cmpf (F := Ideal) (s := S16384x8) (φ := .f32) .ogt
      (extractStridedSlice S16384x8 ![0, 0] (Host.topK ⟨2, ![16384, 9]⟩ 1 (FloatOps.cmpfTotal .gt) (refLogits x w1 b1 w2 b2)
        Cert.Pre_top_votes_strict.Gen.sliceFits_S16384x4096_S16384x9).1 Cert.Pre_top_votes_strict.Gen.slices_S16384x9_S16384x8_0_0)
      (extractStridedSlice S16384x8 ![0, 1] (Host.topK ⟨2, ![16384, 9]⟩ 1 (FloatOps.cmpfTotal .gt) (refLogits x w1 b1 w2 b2)
        Cert.Pre_top_votes_strict.Gen.sliceFits_S16384x4096_S16384x9).1 Cert.Pre_top_votes_strict.Gen.slices_S16384x9_S16384x8_0_1)
      (ix2 (voteRow b v) k) = 1#1 := congrFun h (ix2 (voteRow b v) k)
  have k9 : k.val < 9 := lt_trans k.isLt (by norm_num)
  have k9' : k.val + 1 < 9 := by have := k.isLt; omega
  have e0 := topK_value (refLogits x w1 b1 w2 b2) (n := 9) (by norm_num) Cert.Pre_top_votes_strict.Gen.sliceFits_S16384x4096_S16384x9
    (voteRow b v) ⟨k.val, k9⟩
  have e1 := topK_value (refLogits x w1 b1 w2 b2) (n := 9) (by norm_num) Cert.Pre_top_votes_strict.Gen.sliceFits_S16384x4096_S16384x9
    (voteRow b v) ⟨k.val + 1, k9'⟩
  rw [refLogits_row] at e0 e1
  revert h' e0 e1
  generalize (Host.topK ⟨2, ![16384, 9]⟩ 1 (FloatOps.cmpfTotal (F := Ideal) (φ := .f32) .gt) (refLogits x w1 b1 w2 b2)
    Cert.Pre_top_votes_strict.Gen.sliceFits_S16384x4096_S16384x9).1 = T
  intro h' e0 e1
  revert h'
  pointwise []
  have e : (⟨1 + k.val, by omega⟩ : Fin 9) = ⟨k.val + 1, k9'⟩ := Fin.ext (Nat.add_comm _ _)
  rw [e, e0, e1]
  intro h'
  by_contra hn
  rw [decide_eq_false hn] at h'
  exact absurd h' (by decide)

end

variable (m : (ℓ : Loc nD τ sig) → Buf (Elt Ideal) ℓ) (c : Dev nD)

/-- A device's k-hot result, from its logits. -/
theorem hot_eq : Value.res_main_v32 m c = refHot (refMarks (refLogits (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)))) := rfl

/-- A device's decoded result, from its k-hot result. -/
theorem dec_eq : Value.res_main_v42 m c = refDec (Value.res_main_v32 m c) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := rfl

/-- A device's lists: those of its argument arrays. -/
def devLists : Fin 4096 → Fin 4 → Fin 8 → Fin 4096 :=
  lists (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A device's k-hot result, entry by entry. -/
theorem hot_apply (b q : Fin 4096) : Value.res_main_v32 m c (ix2 b q) = hot (devLists m c b) q := by
  rw [hot_eq]
  exact refHot_lists _ _ _ _ _ b q

/-- A device's decoded result, entry by entry. -/
theorem dec_apply (b : Fin 4096) (j : Fin 256) : Value.res_main_v42 m c (ix2 b j)
    = decoded (hot (devLists m c b)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) j := by
  rw [dec_eq]
  refine (refDec_apply _ _ _ _ _ _ b j).trans ?_
  rw [funext fun q => hot_apply m c b q]

end Cert.ReferenceIdeal.Votes

end
-- ==== Proof.Equation.lean ====
/-
  The equation: where the precondition holds, the idealized kernel and the reference leave the same three results.
-/
module

public import proofs.«01_k».proof.Defs
public import proofs.«01_k».proof.Proof.Final
public import proofs.«01_k».proof.Proof.Reference

@[expose] public section

set_option maxRecDepth 16384

noncomputable section

namespace Cert.Votes

open Idealize.ShloMosaic Idealize.ShloMosaic.TcCoe Idealize.SL.Sem

/-- Every device's lists, from the kernel's argument arrays. -/
def kernelLists (m : (ℓ : Loc Cert.KernelIdeal.nD Cert.KernelIdeal.τ Cert.KernelIdeal.sig) → Buf (Elt Ideal) ℓ) (c : Dev Cert.KernelIdeal.nD) :
    Fin 4096 → Fin 4 → Fin 8 → Fin 4096 :=
  Cert.ReferenceIdeal.Votes.lists (m ((c.tc : Thread _ Cert.KernelIdeal.τ).loc Cert.KernelIdeal.main_arg0))
    (m ((c.tc : Thread _ Cert.KernelIdeal.τ).loc Cert.KernelIdeal.main_arg1)) (m ((c.tc : Thread _ Cert.KernelIdeal.τ).loc Cert.KernelIdeal.main_arg2))
    (m ((c.tc : Thread _ Cert.KernelIdeal.τ).loc Cert.KernelIdeal.main_arg3)) (m ((c.tc : Thread _ Cert.KernelIdeal.τ).loc Cert.KernelIdeal.main_arg4))

/-- The idealized kernel and the reference agree on all three results. -/
theorem algebraic : Cert.algebraic_KernelIdeal_ReferenceIdeal_pre_top_votes_strict := by
  intro m g m' g' hpre heq
  have hp : ∀ c b v, Top (Cert.KernelIdeal.Vote.scores m c b v) (kernelLists m c b v) := fun c b v =>
    Cert.ReferenceIdeal.Votes.top_lists _ _ _ _ _ _ _ _ _ _ (hpre c) b v
  refine ⟨fun c => Cert.KernelIdeal.Vote.decArr m (kernelLists m c) c, fun c => Cert.KernelIdeal.Vote.hotArr (kernelLists m c),
    fun c => constant (F := Ideal) Cert.KernelIdeal.S_ .f32 0x00000000#32, ?_, ?_⟩
  · exact (θ_run Cert.KernelIdeal.defs _ _).mono (fun r h c => ⟨(h.1 c).1, (h.1 c).2.1, (h.1 c).2.2, h.2 c⟩)
      (θ_run_and (Cert.KernelIdeal.Vote.run m g (kernelLists m) hp) (Cert.KernelIdeal.Vote.unchanged m g))
  · refine (θ_run Cert.ReferenceIdeal.defs _ _).mono (fun r h c => ?_) (Cert.ReferenceIdeal.Value.run (F := Ideal) m' g')
    obtain ⟨hd, hh, hc, hrest⟩ := h c
    obtain ⟨a0, a1, a2, a3, a4, a5, a6, a7, a8, a9⟩ := heq c
    have el : Cert.ReferenceIdeal.Votes.devLists m' c = kernelLists m c := by
      unfold Cert.ReferenceIdeal.Votes.devLists kernelLists
      rw [a0, a1, a2, a3, a4]
    refine ⟨hd.trans (funext fun (i : Cert.ReferenceIdeal.S4096x256.Idx) => ?_),
      hh.trans (funext fun (i : Cert.ReferenceIdeal.S4096x4096.Idx) => ?_), hc, hrest⟩
    · rw [Cert.KernelIdeal.Vote.eq_ix2 i]
      refine (Cert.ReferenceIdeal.Votes.dec_apply m' c (i 0) (i 1)).trans ?_
      rw [el, a5, a6, a7, a8, a9]
      rfl
    · rw [Cert.KernelIdeal.Vote.eq_ix2 i]
      refine (Cert.ReferenceIdeal.Votes.hot_apply m' c (i 0) (i 1)).trans ?_
      rw [el]
      rfl

end Cert.Votes

end
-- ==== Proof.lean ====
/-
  The proof of `Cert.Claim`: the frames of the kernel, of its idealization and of the reference, that the idealization
  keeps what the kernel names, and that the idealized kernel and the reference compute the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top_votes_strict
public import Idealize.ShloMosaic.Adequacy
public import Idealize.ShloMosaic.Init
public import proofs.«01_k».proof.Proof.SafeFrame
public import proofs.«01_k».proof.Proof.Run
public import proofs.«01_k».proof.Proof.Equation

@[expose] public section

noncomputable section

namespace Cert.Proof

open Idealize.ShloMosaic Idealize.ShloMosaic.TcCoe Idealize.SL.Sem

/-- The kernel's frame. -/
theorem frame_kernel : Cert.quiescent_Kernel := fun m ρ _ => Cert.Kernel.Safe.frame m ρ

/-- The idealized kernel's frame. -/
theorem frame_ideal : Cert.quiescent_KernelIdeal := fun m ρ _ => Cert.KernelIdeal.Vote.frame m ρ

/-- The idealized kernel's frame, under the precondition it does not need. -/
theorem frame_ideal_strict : Cert.quiescent_KernelIdeal_pre_top_votes_strict :=
  fun m ρ _ => Cert.KernelIdeal.Vote.frame m ρ

/-- The reference's frame. -/
theorem frame_reference : Cert.quiescent_ReferenceIdeal := by
  intro m ρ _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The reference's frame, under the precondition it does not need. -/
theorem frame_reference_strict : Cert.quiescent_ReferenceIdeal_pre_top_votes_strict := by
  intro m ρ _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The constant the idealization names is the least extended real. -/
theorem preserves : Cert.preserves_Kernel_KernelIdeal :=
  IdealRules.named_const.statement Cert.KernelIdeal.κ "neg" .f32 0xFF61B1E6#32 ⊥ rfl

/-- All the claims. -/
theorem claim : Cert.Claim :=
  ⟨Cert.Kernel.Gen.facts, Cert.KernelIdeal.Gen.facts, Cert.ReferenceIdeal.Gen.facts, Cert.Pre_top_votes_strict.Gen.facts,
    frame_kernel, frame_ideal, frame_ideal_strict, frame_reference, frame_reference_strict, preserves, Cert.Votes.algebraic⟩

end Cert.Proof

end
